-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_categories_in_range [hPre_categories_in_range : Cert.Pre_categories_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_categories_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_categories_in_range [hPre_categories_in_range : Cert.Pre_categories_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_categories_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_categories_in_range [hKernelIdeal : Cert.KernelIdeal.Facts] [hPre_categories_in_range : Cert.Pre_categories_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_categories_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_categories_in_range [hReferenceIdeal : Cert.ReferenceIdeal.Facts] [hPre_categories_in_range : Cert.Pre_categories_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_categories_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_categories_in_range [hKernelIdeal : Cert.KernelIdeal.Facts] [hReferenceIdeal : Cert.ReferenceIdeal.Facts] [hPre_categories_in_range : Cert.Pre_categories_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_categories_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_categories_in_range : Cert.Pre_categories_in_range.Facts),
    quiescent_Kernel (hKernel := hKernel)
    ∧ quiescent_KernelIdeal (hKernelIdeal := hKernelIdeal)
    ∧ quiescent_KernelIdeal_pre_categories_in_range (hKernelIdeal := hKernelIdeal) (hPre_categories_in_range := hPre_categories_in_range)
    ∧ quiescent_ReferenceIdeal (hReferenceIdeal := hReferenceIdeal)
    ∧ quiescent_ReferenceIdeal_pre_categories_in_range (hReferenceIdeal := hReferenceIdeal) (hPre_categories_in_range := hPre_categories_in_range)
    ∧ preserves_Kernel_KernelIdeal
    ∧ algebraic_KernelIdeal_ReferenceIdeal_pre_categories_in_range (hKernelIdeal := hKernelIdeal) (hReferenceIdeal := hReferenceIdeal) (hPre_categories_in_range := hPre_categories_in_range)
-- ==== Pre_categories_in_range.lean ====
abbrev S16384x7 : Shape := ⟨2, ![16384, 7]⟩
abbrev S16384x13 : Shape := ⟨2, ![16384, 13]⟩
abbrev S501x16 : Shape := ⟨2, ![501, 16]⟩
abbrev S9x6 : Shape := ⟨2, ![9, 6]⟩
abbrev S11x8 : Shape := ⟨2, ![11, 8]⟩
abbrev S10001x24 : Shape := ⟨2, ![10001, 24]⟩
abbrev S9x4 : Shape := ⟨2, ![9, 4]⟩
abbrev S501x8 : Shape := ⟨2, ![501, 8]⟩
abbrev S87x256 : Shape := ⟨2, ![87, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S16384x7 : S_.BroadcastsInDim S16384x7 (![] : Fin 0 → Fin S16384x7.rank)
  reducesTo_S16384x7_S_d0_1 : S16384x7.ReducesTo [0, 1] S_
  h_S_ : 0 < S_.numel

variable [Facts]

def fn {F : FTy → Type} [FloatOps F] (main_arg0 : IVec S16384x7 32) (main_arg1 : FVec F S16384x13 .f32) (main_arg2 : FVec F S501x16 .f32) (main_arg3 : FVec F S9x6 .f32) (main_arg4 : FVec F S11x8 .f32) (main_arg5 : FVec F S10001x24 .f32) (main_arg6 : FVec F S11x8 .f32) (main_arg7 : FVec F S9x4 .f32) (main_arg8 : FVec F S501x8 .f32) (main_arg9 : FVec F S87x256 .f32) (main_arg10 : FVec F S256 .f32) (main_arg11 : FVec F S256x128 .f32) (main_arg12 : FVec F S128 .f32) (main_arg13 : FVec F S128x1 .f32) (main_arg14 : FVec F S1 .f32) : IVec S_ 1 :=
  let main_c : IVec S_ 32 := constantI S_ 32 0#32
  let main_v0 : IVec S16384x7 32 := broadcastInDim S16384x7 ![] bcast_S_S16384x7 main_c
  let main_v1 : IVec S16384x7 1 := cmpi .sge main_arg0 main_v0
  let main_c_0 : IVec S_ 32 := constantI S_ 32 9#32
  let main_v2 : IVec S16384x7 32 := broadcastInDim S16384x7 ![] bcast_S_S16384x7 main_c_0
  let main_v3 : IVec S16384x7 1 := cmpi .slt main_arg0 main_v2
  let main_v4 : IVec S16384x7 1 := andi main_v1 main_v3
  let main_c_1 : IVec S_ 1 := constantI S_ 1 1#1
  let main_v5 : IVec S_ 1 := (fun x v => Host.reduce IntOp.andi x v reducesTo_S16384x7_S_d0_1 h_S_) main_v4 main_c_1
  main_v5
-- ==== Kernel.lean ====
abbrev S16384x7 : Shape := ⟨2, ![16384, 7]⟩
abbrev S16384x13 : Shape := ⟨2, ![16384, 13]⟩
abbrev S501x16 : Shape := ⟨2, ![501, 16]⟩
abbrev S9x6 : Shape := ⟨2, ![9, 6]⟩
abbrev S11x8 : Shape := ⟨2, ![11, 8]⟩
abbrev S10001x24 : Shape := ⟨2, ![10001, 24]⟩
abbrev S9x4 : Shape := ⟨2, ![9, 4]⟩
abbrev S501x8 : Shape := ⟨2, ![501, 8]⟩
abbrev S87x256 : Shape := ⟨2, ![87, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S9x16 : Shape := ⟨2, ![9, 16]⟩
abbrev S9x8 : Shape := ⟨2, ![9, 8]⟩
abbrev S9x24 : Shape := ⟨2, ![9, 24]⟩
abbrev S9x74 : Shape := ⟨2, ![9, 74]⟩
abbrev S1x256 : Shape := ⟨2, ![1, 256]⟩
abbrev S1x128 : Shape := ⟨2, ![1, 128]⟩
abbrev S1x1 : Shape := ⟨2, ![1, 1]⟩
abbrev S1x513 : Shape := ⟨2, ![1, 513]⟩
abbrev S16384x1 : Shape := ⟨2, ![16384, 1]⟩
abbrev S8192x7 : Shape := ⟨2, ![8192, 7]⟩
abbrev S8192x13 : Shape := ⟨2, ![8192, 13]⟩
abbrev S8192x1 : Shape := ⟨2, ![8192, 1]⟩
abbrev S63x74 : Shape := ⟨2, ![63, 74]⟩
abbrev S1x74 : Shape := ⟨2, ![1, 74]⟩
abbrev S63x1 : Shape := ⟨2, ![63, 1]⟩
abbrev S74x256 : Shape := ⟨2, ![74, 256]⟩
abbrev S63x256 : Shape := ⟨2, ![63, 256]⟩
abbrev S13x256 : Shape := ⟨2, ![13, 256]⟩
abbrev S7x63 : Shape := ⟨2, ![7, 63]⟩
abbrev S8192x63 : Shape := ⟨2, ![8192, 63]⟩
abbrev S1x63 : Shape := ⟨2, ![1, 63]⟩
abbrev S8192x76 : Shape := ⟨2, ![8192, 76]⟩
abbrev S76x256 : Shape := ⟨2, ![76, 256]⟩
abbrev S8192x256 : Shape := ⟨2, ![8192, 256]⟩
abbrev S8192x128 : Shape := ⟨2, ![8192, 128]⟩
abbrev S8192 : Shape := ⟨1, ![8192]⟩
abbrev S16384 : Shape := ⟨1, ![16384]⟩

abbrev nBuf : Space → Nat
  | .hbm => 28
  | .vmem => 10
  | .smem => 0
  | _ => 0

abbrev bufTy : (tb : Table) → Fin (tcTables nBuf tb) → BufTy
  | .hbm, ⟨0, _⟩ => ⟨S16384x7, .i32⟩
  | .hbm, ⟨1, _⟩ => ⟨S16384x13, .f32⟩
  | .hbm, ⟨2, _⟩ => ⟨S501x16, .f32⟩
  | .hbm, ⟨3, _⟩ => ⟨S9x6, .f32⟩
  | .hbm, ⟨4, _⟩ => ⟨S11x8, .f32⟩
  | .hbm, ⟨5, _⟩ => ⟨S10001x24, .f32⟩
  | .hbm, ⟨6, _⟩ => ⟨S11x8, .f32⟩
  | .hbm, ⟨7, _⟩ => ⟨S9x4, .f32⟩
  | .hbm, ⟨8, _⟩ => ⟨S501x8, .f32⟩
  | .hbm, ⟨9, _⟩ => ⟨S87x256, .f32⟩
  | .hbm, ⟨10, _⟩ => ⟨S256, .f32⟩
  | .hbm, ⟨11, _⟩ => ⟨S256x128, .f32⟩
  | .hbm, ⟨12, _⟩ => ⟨S128, .f32⟩
  | .hbm, ⟨13, _⟩ => ⟨S128x1, .f32⟩
  | .hbm, ⟨14, _⟩ => ⟨S1, .f32⟩
  | .hbm, ⟨15, _⟩ => ⟨S9x16, .f32⟩
  | .hbm, ⟨16, _⟩ => ⟨S9x8, .f32⟩
  | .hbm, ⟨17, _⟩ => ⟨S9x24, .f32⟩
  | .hbm, ⟨18, _⟩ => ⟨S9x8, .f32⟩
  | .hbm, ⟨19, _⟩ => ⟨S9x8, .f32⟩
  | .hbm, ⟨20, _⟩ => ⟨S9x74, .f32⟩
  | .hbm, ⟨21, _⟩ => ⟨S1x256, .f32⟩
  | .hbm, ⟨22, _⟩ => ⟨S1x128, .f32⟩
  | .hbm, ⟨23, _⟩ => ⟨S1x128, .f32⟩
  | .hbm, ⟨24, _⟩ => ⟨S1x1, .f32⟩
  | .hbm, ⟨25, _⟩ => ⟨S1x513, .f32⟩
  | .hbm, ⟨26, _⟩ => ⟨S16384x1, .f32⟩
  | .hbm, ⟨27, _⟩ => ⟨S16384, .f32⟩
  | .local _ .vmem, ⟨0, _⟩ => ⟨S8192x7, .i32⟩
  | .local _ .vmem, ⟨1, _⟩ => ⟨S8192x7, .i32⟩
  | .local _ .vmem, ⟨2, _⟩ => ⟨S8192x13, .f32⟩
  | .local _ .vmem, ⟨3, _⟩ => ⟨S8192x13, .f32⟩
  | .local _ .vmem, ⟨4, _⟩ => ⟨S9x74, .f32⟩
  | .local _ .vmem, ⟨5, _⟩ => ⟨S87x256, .f32⟩
  | .local _ .vmem, ⟨6, _⟩ => ⟨S256x128, .f32⟩
  | .local _ .vmem, ⟨7, _⟩ => ⟨S1x513, .f32⟩
  | .local _ .vmem, ⟨8, _⟩ => ⟨S8192x1, .f32⟩
  | .local _ .vmem, ⟨9, _⟩ => ⟨S8192x1, .f32⟩
  | _, _ => ⟨S16384x7, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x7 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x13 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9x74 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S87x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x513 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8192x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16384x7 : Shape := ⟨2, ![16384, 7]⟩
abbrev S16384x13 : Shape := ⟨2, ![16384, 13]⟩
abbrev S501x16 : Shape := ⟨2, ![501, 16]⟩
abbrev S9x6 : Shape := ⟨2, ![9, 6]⟩
abbrev S11x8 : Shape := ⟨2, ![11, 8]⟩
abbrev S10001x24 : Shape := ⟨2, ![10001, 24]⟩
abbrev S9x4 : Shape := ⟨2, ![9, 4]⟩
abbrev S501x8 : Shape := ⟨2, ![501, 8]⟩
abbrev S87x256 : Shape := ⟨2, ![87, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S16384x1 : Shape := ⟨2, ![16384, 1]⟩
abbrev S16384 : Shape := ⟨1, ![16384]⟩
abbrev S_ : Shape := ⟨0, ![]⟩
abbrev S1x1 : Shape := ⟨2, ![1, 1]⟩
abbrev S16384x16 : Shape := ⟨2, ![16384, 16]⟩
abbrev S16384x6 : Shape := ⟨2, ![16384, 6]⟩
abbrev S16384x8 : Shape := ⟨2, ![16384, 8]⟩
abbrev S16384x24 : Shape := ⟨2, ![16384, 24]⟩
abbrev S16384x4 : Shape := ⟨2, ![16384, 4]⟩
abbrev S16384x87 : Shape := ⟨2, ![16384, 87]⟩
abbrev S16384x256 : Shape := ⟨2, ![16384, 256]⟩
abbrev S1x256 : Shape := ⟨2, ![1, 256]⟩
abbrev S16384x128 : Shape := ⟨2, ![16384, 128]⟩
abbrev S1x128 : Shape := ⟨2, ![1, 128]⟩

abbrev nBuf : Space → Nat
  | .hbm => 218
  | .vmem => 0
  | .smem => 0
  | _ => 0

abbrev hbmTy0_0 (i : Nat) : BufTy := match i % 128 with
  | 0 => ⟨S16384x7, .i32⟩
  | 1 => ⟨S16384x13, .f32⟩
  | 2 => ⟨S501x16, .f32⟩
  | 3 => ⟨S9x6, .f32⟩
  | 4 => ⟨S11x8, .f32⟩
  | 5 => ⟨S10001x24, .f32⟩
  | 6 => ⟨S11x8, .f32⟩
  | 7 => ⟨S9x4, .f32⟩
  | 8 => ⟨S501x8, .f32⟩
  | 9 => ⟨S87x256, .f32⟩
  | 10 => ⟨S256, .f32⟩
  | 11 => ⟨S256x128, .f32⟩
  | 12 => ⟨S128, .f32⟩
  | 13 => ⟨S128x1, .f32⟩
  | 14 => ⟨S1, .f32⟩
  | 15 => ⟨S16384x1, .i32⟩
  | 16 => ⟨S16384, .i32⟩
  | 17 => ⟨S_, .i32⟩
  | 18 => ⟨S16384, .i32⟩
  | 19 => ⟨S16384, .i1⟩
  | 20 => ⟨S_, .i32⟩
  | 21 => ⟨S16384, .i32⟩
  | 22 => ⟨S16384, .i32⟩
  | 23 => ⟨S16384, .i32⟩
  | 24 => ⟨S16384x1, .i32⟩
  | 25 => ⟨S1, .i32⟩
  | 26 => ⟨S_, .i32⟩
  | 27 => ⟨S16384x1, .i32⟩
  | 28 => ⟨S16384x1, .i1⟩
  | 29 => ⟨S1x1, .i32⟩
  | 30 => ⟨S16384x1, .i32⟩
  | 31 => ⟨S16384x1, .i1⟩
  | 32 => ⟨S16384x1, .i1⟩
  | 33 => ⟨S_, .i1⟩
  | 34 => ⟨S16384, .i1⟩
  | 35 => ⟨S16384x16, .f32⟩
  | 36 => ⟨S16384x16, .i1⟩
  | 37 => ⟨S_, .f32⟩
  | 38 => ⟨S16384x16, .f32⟩
  | 39 => ⟨S16384x16, .f32⟩
  | 40 => ⟨S16384x1, .i32⟩
  | 41 => ⟨S16384, .i32⟩
  | 42 => ⟨S_, .i32⟩
  | 43 => ⟨S16384, .i32⟩
  | 44 => ⟨S16384, .i1⟩
  | 45 => ⟨S_, .i32⟩
  | 46 => ⟨S16384, .i32⟩
  | 47 => ⟨S16384, .i32⟩
  | 48 => ⟨S16384, .i32⟩
  | 49 => ⟨S16384x1, .i32⟩
  | 50 => ⟨S1, .i32⟩
  | 51 => ⟨S_, .i32⟩
  | 52 => ⟨S16384x1, .i32⟩
  | 53 => ⟨S16384x1, .i1⟩
  | 54 => ⟨S1x1, .i32⟩
  | 55 => ⟨S16384x1, .i32⟩
  | 56 => ⟨S16384x1, .i1⟩
  | 57 => ⟨S16384x1, .i1⟩
  | 58 => ⟨S_, .i1⟩
  | 59 => ⟨S16384, .i1⟩
  | 60 => ⟨S16384x6, .f32⟩
  | 61 => ⟨S16384x6, .i1⟩
  | 62 => ⟨S_, .f32⟩
  | 63 => ⟨S16384x6, .f32⟩
  | 64 => ⟨S16384x6, .f32⟩
  | 65 => ⟨S16384x1, .i32⟩
  | 66 => ⟨S16384, .i32⟩
  | 67 => ⟨S_, .i32⟩
  | 68 => ⟨S16384, .i32⟩
  | 69 => ⟨S16384, .i1⟩
  | 70 => ⟨S_, .i32⟩
  | 71 => ⟨S16384, .i32⟩
  | 72 => ⟨S16384, .i32⟩
  | 73 => ⟨S16384, .i32⟩
  | 74 => ⟨S16384x1, .i32⟩
  | 75 => ⟨S1, .i32⟩
  | 76 => ⟨S_, .i32⟩
  | 77 => ⟨S16384x1, .i32⟩
  | 78 => ⟨S16384x1, .i1⟩
  | 79 => ⟨S1x1, .i32⟩
  | 80 => ⟨S16384x1, .i32⟩
  | 81 => ⟨S16384x1, .i1⟩
  | 82 => ⟨S16384x1, .i1⟩
  | 83 => ⟨S_, .i1⟩
  | 84 => ⟨S16384, .i1⟩
  | 85 => ⟨S16384x8, .f32⟩
  | 86 => ⟨S16384x8, .i1⟩
  | 87 => ⟨S_, .f32⟩
  | 88 => ⟨S16384x8, .f32⟩
  | 89 => ⟨S16384x8, .f32⟩
  | 90 => ⟨S16384x1, .i32⟩
  | 91 => ⟨S16384, .i32⟩
  | 92 => ⟨S_, .i32⟩
  | 93 => ⟨S16384, .i32⟩
  | 94 => ⟨S16384, .i1⟩
  | 95 => ⟨S_, .i32⟩
  | 96 => ⟨S16384, .i32⟩
  | 97 => ⟨S16384, .i32⟩
  | 98 => ⟨S16384, .i32⟩
  | 99 => ⟨S16384x1, .i32⟩
  | 100 => ⟨S1, .i32⟩
  | 101 => ⟨S_, .i32⟩
  | 102 => ⟨S16384x1, .i32⟩
  | 103 => ⟨S16384x1, .i1⟩
  | 104 => ⟨S1x1, .i32⟩
  | 105 => ⟨S16384x1, .i32⟩
  | 106 => ⟨S16384x1, .i1⟩
  | 107 => ⟨S16384x1, .i1⟩
  | 108 => ⟨S_, .i1⟩
  | 109 => ⟨S16384, .i1⟩
  | 110 => ⟨S16384x24, .f32⟩
  | 111 => ⟨S16384x24, .i1⟩
  | 112 => ⟨S_, .f32⟩
  | 113 => ⟨S16384x24, .f32⟩
  | 114 => ⟨S16384x24, .f32⟩
  | 115 => ⟨S16384x1, .i32⟩
  | 116 => ⟨S16384, .i32⟩
  | 117 => ⟨S_, .i32⟩
  | 118 => ⟨S16384, .i32⟩
  | 119 => ⟨S16384, .i1⟩
  | 120 => ⟨S_, .i32⟩
  | 121 => ⟨S16384, .i32⟩
  | 122 => ⟨S16384, .i32⟩
  | 123 => ⟨S16384, .i32⟩
  | 124 => ⟨S16384x1, .i32⟩
  | 125 => ⟨S1, .i32⟩
  | 126 => ⟨S_, .i32⟩
  | 127 => ⟨S16384x1, .i32⟩
  | _ => ⟨S16384x7, .i32⟩

abbrev hbmTy0_1 (i : Nat) : BufTy := match i % 128 with
  | 0 => ⟨S16384x1, .i1⟩
  | 1 => ⟨S1x1, .i32⟩
  | 2 => ⟨S16384x1, .i32⟩
  | 3 => ⟨S16384x1, .i1⟩
  | 4 => ⟨S16384x1, .i1⟩
  | 5 => ⟨S_, .i1⟩
  | 6 => ⟨S16384, .i1⟩
  | 7 => ⟨S16384x8, .f32⟩
  | 8 => ⟨S16384x8, .i1⟩
  | 9 => ⟨S_, .f32⟩
  | 10 => ⟨S16384x8, .f32⟩
  | 11 => ⟨S16384x8, .f32⟩
  | 12 => ⟨S16384x1, .i32⟩
  | 13 => ⟨S16384, .i32⟩
  | 14 => ⟨S_, .i32⟩
  | 15 => ⟨S16384, .i32⟩
  | 16 => ⟨S16384, .i1⟩
  | 17 => ⟨S_, .i32⟩
  | 18 => ⟨S16384, .i32⟩
  | 19 => ⟨S16384, .i32⟩
  | 20 => ⟨S16384, .i32⟩
  | 21 => ⟨S16384x1, .i32⟩
  | 22 => ⟨S1, .i32⟩
  | 23 => ⟨S_, .i32⟩
  | 24 => ⟨S16384x1, .i32⟩
  | 25 => ⟨S16384x1, .i1⟩
  | 26 => ⟨S1x1, .i32⟩
  | 27 => ⟨S16384x1, .i32⟩
  | 28 => ⟨S16384x1, .i1⟩
  | 29 => ⟨S16384x1, .i1⟩
  | 30 => ⟨S_, .i1⟩
  | 31 => ⟨S16384, .i1⟩
  | 32 => ⟨S16384x4, .f32⟩
  | 33 => ⟨S16384x4, .i1⟩
  | 34 => ⟨S_, .f32⟩
  | 35 => ⟨S16384x4, .f32⟩
  | 36 => ⟨S16384x4, .f32⟩
  | 37 => ⟨S16384x1, .i32⟩
  | 38 => ⟨S16384, .i32⟩
  | 39 => ⟨S_, .i32⟩
  | 40 => ⟨S16384, .i32⟩
  | 41 => ⟨S16384, .i1⟩
  | 42 => ⟨S_, .i32⟩
  | 43 => ⟨S16384, .i32⟩
  | 44 => ⟨S16384, .i32⟩
  | 45 => ⟨S16384, .i32⟩
  | 46 => ⟨S16384x1, .i32⟩
  | 47 => ⟨S1, .i32⟩
  | 48 => ⟨S_, .i32⟩
  | 49 => ⟨S16384x1, .i32⟩
  | 50 => ⟨S16384x1, .i1⟩
  | 51 => ⟨S1x1, .i32⟩
  | 52 => ⟨S16384x1, .i32⟩
  | 53 => ⟨S16384x1, .i1⟩
  | 54 => ⟨S16384x1, .i1⟩
  | 55 => ⟨S_, .i1⟩
  | 56 => ⟨S16384, .i1⟩
  | 57 => ⟨S16384x8, .f32⟩
  | 58 => ⟨S16384x8, .i1⟩
  | 59 => ⟨S_, .f32⟩
  | 60 => ⟨S16384x8, .f32⟩
  | 61 => ⟨S16384x8, .f32⟩
  | 62 => ⟨S16384x87, .f32⟩
  | 63 => ⟨S16384x256, .f32⟩
  | 64 => ⟨S1x256, .f32⟩
  | 65 => ⟨S16384x256, .f32⟩
  | 66 => ⟨S16384x256, .f32⟩
  | 67 => ⟨S_, .f32⟩
  | 68 => ⟨S16384x256, .f32⟩
  | 69 => ⟨S16384x256, .f32⟩
  | 70 => ⟨S16384x128, .f32⟩
  | 71 => ⟨S1x128, .f32⟩
  | 72 => ⟨S16384x128, .f32⟩
  | 73 => ⟨S16384x128, .f32⟩
  | 74 => ⟨S_, .f32⟩
  | 75 => ⟨S16384x128, .f32⟩
  | 76 => ⟨S16384x128, .f32⟩
  | 77 => ⟨S16384x1, .f32⟩
  | 78 => ⟨S1x1, .f32⟩
  | 79 => ⟨S16384x1, .f32⟩
  | 80 => ⟨S16384x1, .f32⟩
  | 81 => ⟨S16384, .f32⟩
  | 82 => ⟨S16384, .f32⟩
  | 83 => ⟨S16384, .f32⟩
  | 84 => ⟨S_, .f32⟩
  | 85 => ⟨S16384, .f32⟩
  | 86 => ⟨S16384, .f32⟩
  | 87 => ⟨S_, .f32⟩
  | 88 => ⟨S16384, .f32⟩
  | 89 => ⟨S16384, .f32⟩
  | _ => ⟨S16384x7, .i32⟩

abbrev hbmTy (i : Nat) : BufTy := match i / 128 with
  | 0 => hbmTy0_0 i
  | 1 => hbmTy0_1 i
  | _ => ⟨S16384x7, .i32⟩

abbrev bufTy : (tb : Table) → Fin (tcTables nBuf tb) → BufTy
  | .hbm, ⟨i, _⟩ => hbmTy i
  | _, _ => ⟨S16384x7, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v5 : Ref sig .tc := ⟨.hbm, 64, rfl⟩
abbrev main_v6 : Ref sig .tc := ⟨.hbm, 65, rfl⟩
abbrev main_v7 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_call2_cst : Ref sig .tc := ⟨.hbm, 87, rfl⟩
abbrev main_call2_v15 : Ref sig .tc := ⟨.hbm, 88, rfl⟩
abbrev main_v8 : Ref sig .tc := ⟨.hbm, 89, rfl⟩
abbrev main_v9 : Ref sig .tc := ⟨.hbm, 90, rfl⟩
abbrev main_v10 : Ref sig .tc := ⟨.hbm, 91, rfl⟩
abbrev main_call3_c : Ref sig .tc := ⟨.hbm, 92, rfl⟩
abbrev main_call3_v0 : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_c_1 : Ref sig .tc := ⟨.hbm, 100, rfl⟩
abbrev main_call3_c_2 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_3 : Ref sig .tc := ⟨.hbm, 108, rfl⟩
abbrev main_call3_v12 : Ref sig .tc := ⟨.hbm, 109, rfl⟩
abbrev main_call3_v13 : Ref sig .tc := ⟨.hbm, 110, rfl⟩
abbrev main_call3_v14 : Ref sig .tc := ⟨.hbm, 111, rfl⟩
abbrev main_call3_cst : Ref sig .tc := ⟨.hbm, 112, rfl⟩
abbrev main_call3_v15 : Ref sig .tc := ⟨.hbm, 113, rfl⟩
abbrev main_v11 : Ref sig .tc := ⟨.hbm, 114, rfl⟩
abbrev main_v12 : Ref sig .tc := ⟨.hbm, 115, rfl⟩
abbrev main_v13 : Ref sig .tc := ⟨.hbm, 116, rfl⟩
abbrev main_call4_c : Ref sig .tc := ⟨.hbm, 117, rfl⟩
abbrev main_call4_v0 : Ref sig .tc := ⟨.hbm, 118, rfl⟩
abbrev main_call4_v1 : Ref sig .tc := ⟨.hbm, 119, rfl⟩
abbrev main_call4_c_0 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_call4_v5 : Ref sig .tc := ⟨.hbm, 124, rfl⟩
abbrev main_call4_c_1 : Ref sig .tc := ⟨.hbm, 125, rfl⟩
abbrev main_call4_c_2 : Ref sig .tc := ⟨.hbm, 126, rfl⟩
abbrev main_call4_v6 : Ref sig .tc := ⟨.hbm, 127, rfl⟩
abbrev main_call4_v7 : Ref sig .tc := ⟨.hbm, 128, rfl⟩
abbrev main_call4_v8 : Ref sig .tc := ⟨.hbm, 129, rfl⟩
abbrev main_call4_v9 : Ref sig .tc := ⟨.hbm, 130, rfl⟩
abbrev main_call4_v10 : Ref sig .tc := ⟨.hbm, 131, rfl⟩
abbrev main_call4_v11 : Ref sig .tc := ⟨.hbm, 132, rfl⟩
abbrev main_call4_c_3 : Ref sig .tc := ⟨.hbm, 133, rfl⟩
abbrev main_call4_v12 : Ref sig .tc := ⟨.hbm, 134, rfl⟩
abbrev main_call4_v13 : Ref sig .tc := ⟨.hbm, 135, rfl⟩
abbrev main_call4_v14 : Ref sig .tc := ⟨.hbm, 136, rfl⟩
abbrev main_call4_cst : Ref sig .tc := ⟨.hbm, 137, rfl⟩
abbrev main_call4_v15 : Ref sig .tc := ⟨.hbm, 138, rfl⟩
abbrev main_v14 : Ref sig .tc := ⟨.hbm, 139, rfl⟩
abbrev main_v15 : Ref sig .tc := ⟨.hbm, 140, rfl⟩
abbrev main_v16 : Ref sig .tc := ⟨.hbm, 141, rfl⟩
abbrev main_call5_c : Ref sig .tc := ⟨.hbm, 142, rfl⟩
abbrev main_call5_v0 : Ref sig .tc := ⟨.hbm, 143, rfl⟩
abbrev main_call5_v1 : Ref sig .tc := ⟨.hbm, 144, rfl⟩
abbrev main_call5_c_0 : Ref sig .tc := ⟨.hbm, 145, rfl⟩
abbrev main_call5_v2 : Ref sig .tc := ⟨.hbm, 146, rfl⟩
abbrev main_call5_v3 : Ref sig .tc := ⟨.hbm, 147, rfl⟩
abbrev main_call5_v4 : Ref sig .tc := ⟨.hbm, 148, rfl⟩
abbrev main_call5_v5 : Ref sig .tc := ⟨.hbm, 149, rfl⟩
abbrev main_call5_c_1 : Ref sig .tc := ⟨.hbm, 150, rfl⟩
abbrev main_call5_c_2 : Ref sig .tc := ⟨.hbm, 151, rfl⟩
abbrev main_call5_v6 : Ref sig .tc := ⟨.hbm, 152, rfl⟩
abbrev main_call5_v7 : Ref sig .tc := ⟨.hbm, 153, rfl⟩
abbrev main_call5_v8 : Ref sig .tc := ⟨.hbm, 154, rfl⟩
abbrev main_call5_v9 : Ref sig .tc := ⟨.hbm, 155, rfl⟩
abbrev main_call5_v10 : Ref sig .tc := ⟨.hbm, 156, rfl⟩
abbrev main_call5_v11 : Ref sig .tc := ⟨.hbm, 157, rfl⟩
abbrev main_call5_c_3 : Ref sig .tc := ⟨.hbm, 158, rfl⟩
abbrev main_call5_v12 : Ref sig .tc := ⟨.hbm, 159, rfl⟩
abbrev main_call5_v13 : Ref sig .tc := ⟨.hbm, 160, rfl⟩
abbrev main_call5_v14 : Ref sig .tc := ⟨.hbm, 161, rfl⟩
abbrev main_call5_cst : Ref sig .tc := ⟨.hbm, 162, rfl⟩
abbrev main_call5_v15 : Ref sig .tc := ⟨.hbm, 163, rfl⟩
abbrev main_v17 : Ref sig .tc := ⟨.hbm, 164, rfl⟩
abbrev main_v18 : Ref sig .tc := ⟨.hbm, 165, rfl⟩
abbrev main_v19 : Ref sig .tc := ⟨.hbm, 166, rfl⟩
abbrev main_call6_c : Ref sig .tc := ⟨.hbm, 167, rfl⟩
abbrev main_call6_v0 : Ref sig .tc := ⟨.hbm, 168, rfl⟩
abbrev main_call6_v1 : Ref sig .tc := ⟨.hbm, 169, rfl⟩
abbrev main_call6_c_0 : Ref sig .tc := ⟨.hbm, 170, rfl⟩
abbrev main_call6_v2 : Ref sig .tc := ⟨.hbm, 171, rfl⟩
abbrev main_call6_v3 : Ref sig .tc := ⟨.hbm, 172, rfl⟩
abbrev main_call6_v4 : Ref sig .tc := ⟨.hbm, 173, rfl⟩
abbrev main_call6_v5 : Ref sig .tc := ⟨.hbm, 174, rfl⟩
abbrev main_call6_c_1 : Ref sig .tc := ⟨.hbm, 175, rfl⟩
abbrev main_call6_c_2 : Ref sig .tc := ⟨.hbm, 176, rfl⟩
abbrev main_call6_v6 : Ref sig .tc := ⟨.hbm, 177, rfl⟩
abbrev main_call6_v7 : Ref sig .tc := ⟨.hbm, 178, rfl⟩
abbrev main_call6_v8 : Ref sig .tc := ⟨.hbm, 179, rfl⟩
abbrev main_call6_v9 : Ref sig .tc := ⟨.hbm, 180, rfl⟩
abbrev main_call6_v10 : Ref sig .tc := ⟨.hbm, 181, rfl⟩
abbrev main_call6_v11 : Ref sig .tc := ⟨.hbm, 182, rfl⟩
abbrev main_call6_c_3 : Ref sig .tc := ⟨.hbm, 183, rfl⟩
abbrev main_call6_v12 : Ref sig .tc := ⟨.hbm, 184, rfl⟩
abbrev main_call6_v13 : Ref sig .tc := ⟨.hbm, 185, rfl⟩
abbrev main_call6_v14 : Ref sig .tc := ⟨.hbm, 186, rfl⟩
abbrev main_call6_cst : Ref sig .tc := ⟨.hbm, 187, rfl⟩
abbrev main_call6_v15 : Ref sig .tc := ⟨.hbm, 188, rfl⟩
abbrev main_v20 : Ref sig .tc := ⟨.hbm, 189, rfl⟩
abbrev main_v21 : Ref sig .tc := ⟨.hbm, 190, rfl⟩
abbrev main_v22 : Ref sig .tc := ⟨.hbm, 191, rfl⟩
abbrev main_v23 : Ref sig .tc := ⟨.hbm, 192, rfl⟩
abbrev main_v24 : Ref sig .tc := ⟨.hbm, 193, rfl⟩
abbrev main_v25 : Ref sig .tc := ⟨.hbm, 194, rfl⟩
abbrev main_call7_cst : Ref sig .tc := ⟨.hbm, 195, rfl⟩
abbrev main_call7_v0 : Ref sig .tc := ⟨.hbm, 196, rfl⟩
abbrev main_v26 : Ref sig .tc := ⟨.hbm, 197, rfl⟩
abbrev main_v27 : Ref sig .tc := ⟨.hbm, 198, rfl⟩
abbrev main_v28 : Ref sig .tc := ⟨.hbm, 199, rfl⟩
abbrev main_v29 : Ref sig .tc := ⟨.hbm, 200, rfl⟩
abbrev main_v30 : Ref sig .tc := ⟨.hbm, 201, rfl⟩
abbrev main_call8_cst : Ref sig .tc := ⟨.hbm, 202, rfl⟩
abbrev main_call8_v0 : Ref sig .tc := ⟨.hbm, 203, rfl⟩
abbrev main_v31 : Ref sig .tc := ⟨.hbm, 204, rfl⟩
abbrev main_v32 : Ref sig .tc := ⟨.hbm, 205, rfl⟩
abbrev main_v33 : Ref sig .tc := ⟨.hbm, 206, rfl⟩
abbrev main_v34 : Ref sig .tc := ⟨.hbm, 207, rfl⟩
abbrev main_v35 : Ref sig .tc := ⟨.hbm, 208, rfl⟩
abbrev main_v36 : Ref sig .tc := ⟨.hbm, 209, rfl⟩
abbrev main_v37 : Ref sig .tc := ⟨.hbm, 210, rfl⟩
abbrev main_v38 : Ref sig .tc := ⟨.hbm, 211, rfl⟩
abbrev main_cst : Ref sig .tc := ⟨.hbm, 212, rfl⟩
abbrev main_v39 : Ref sig .tc := ⟨.hbm, 213, rfl⟩
abbrev main_v40 : Ref sig .tc := ⟨.hbm, 214, rfl⟩
abbrev main_cst_0 : Ref sig .tc := ⟨.hbm, 215, rfl⟩
abbrev main_v41 : Ref sig .tc := ⟨.hbm, 216, rfl⟩
abbrev main_v42 : Ref sig .tc := ⟨.hbm, 217, rfl⟩

abbrev nD : Nat := 1
abbrev τ : Topo := Topo.v7x

variable {F : FTy → Type} [FloatOps F]
-- ==== Proof.Algebra.lean ====
/- The mathematics both programs compute, over the extended reals, and the one equation between their two
   arrangements of the first layer. It mentions no program. -/
module

public import Idealize.ShloMosaic.Lib.Pointwise

@[expose] public section

noncomputable section

namespace Cert.Algebra

open Idealize.ShloMosaic

/-! ## The bands of the embedded row

The seven embeddings stand side by side in 74 columns; column `c` belongs to the table `band c`. -/

/-- The number of the table that column `c` of the embedded row comes from: how many of the six later tables begin
    at or before `c`. -/
def band (c : Nat) : Nat :=
  (if 16 ≤ c then 1 else 0) + (if 22 ≤ c then 1 else 0) + (if 30 ≤ c then 1 else 0) + (if 54 ≤ c then 1 else 0)
    + (if 62 ≤ c then 1 else 0) + (if 66 ≤ c then 1 else 0)

theorem band_lt (c : Nat) : band c < 7 := by
  unfold band
  split_ifs <;> decide

/-- The same as a table number. -/
def tableOf (c : Nat) : Fin 7 := ⟨band c, band_lt c⟩

/-! ## The feature row and the network -/

/-- The first nine rows of the seven tables, side by side: 16, 6, 8, 24, 8, 4 and 8 columns wide. -/
def sideBySide (t0 : Fin 501 → Fin 16 → EReal) (t1 : Fin 9 → Fin 6 → EReal) (t2 : Fin 11 → Fin 8 → EReal)
    (t3 : Fin 10001 → Fin 24 → EReal) (t4 : Fin 11 → Fin 8 → EReal) (t5 : Fin 9 → Fin 4 → EReal)
    (t6 : Fin 501 → Fin 8 → EReal) (v : Fin 9) (c : Fin 74) : EReal :=
  if h : c.val < 16 then t0 ⟨v.val, by omega⟩ ⟨c.val, h⟩
  else if h : c.val - 16 < 6 then t1 v ⟨c.val - 16, h⟩
  else if h : c.val - 16 - 6 < 8 then t2 ⟨v.val, by omega⟩ ⟨c.val - 16 - 6, h⟩
  else if h : c.val - 16 - 6 - 8 < 24 then t3 ⟨v.val, by omega⟩ ⟨c.val - 16 - 6 - 8, h⟩
  else if h : c.val - 16 - 6 - 8 - 24 < 8 then t4 ⟨v.val, by omega⟩ ⟨c.val - 16 - 6 - 8 - 24, h⟩
  else if h : c.val - 16 - 6 - 8 - 24 - 8 < 4 then t5 v ⟨c.val - 16 - 6 - 8 - 24 - 8, h⟩
  else t6 ⟨v.val, by omega⟩ ⟨c.val - 16 - 6 - 8 - 24 - 8 - 4, by omega⟩

/-- One row of features: at column `c` below 74 the entry the row's category selects in the side-by-side tables `e`,
    after them the 13 numbers of the row. -/
def featureRow (cat : Fin 7 → Fin 9) (e : Fin 9 → Fin 74 → EReal) (num : Fin 13 → EReal) (k : Fin 87) : EReal :=
  if h : k.val < 74 then e (cat (tableOf k.val)) ⟨k.val, h⟩ else num ⟨k.val - 74, by omega⟩

/-- The three-layer perceptron on one row of features: two layers cut off at zero, then a single output through the
    logistic function. -/
def network (x : Fin 87 → EReal) (w1 : Fin 87 → Fin 256 → EReal) (b1 : Fin 256 → EReal)
    (w2 : Fin 256 → Fin 128 → EReal) (b2 : Fin 128 → EReal) (w3 : Fin 128 → EReal) (b3 : EReal) : EReal :=
  Ideal.logistic (∑ j, max (∑ i, max (∑ k, x k * w1 k i + b1 i) 0 * w2 i j + b2 j) 0 * w3 j + b3)

/-! ## The first layer, two ways -/

/-- A sum over the 63 (table, category) pairs, laid out nine to a table, is a sum over tables of sums over
    categories. -/
theorem sum_pairs (f : Fin 7 → Fin 9 → EReal) :
    ∑ r : Fin 63, f ⟨r.val / 9, by omega⟩ ⟨r.val % 9, by omega⟩ = ∑ g : Fin 7, ∑ v : Fin 9, f g v := by
  rw [← Fintype.sum_prod_type' f]
  refine (Fintype.sum_equiv (finProdFinEquiv (m := 7) (n := 9)) _ _ fun p => ?_).symm
  obtain ⟨g, v⟩ := p
  have hg := g.isLt
  have hv := v.isLt
  have e1 : (finProdFinEquiv (g, v) : Fin (7 * 9)).val = v.val + 9 * g.val := rfl
  refine congrArg₂ f (Fin.ext ?_) (Fin.ext ?_)
  · show g.val = (finProdFinEquiv (g, v) : Fin (7 * 9)).val / 9
    omega
  · show v.val = (finProdFinEquiv (g, v) : Fin (7 * 9)).val % 9
    omega

/-- Every table's share of the first layer, selected by the 0/1 row over the 63 (table, category) pairs, adds up to
    the embedded row times the weights: the pair's weight row is the table's band of columns of that category,
    already multiplied by the weights. No distributive law is used. -/
theorem onehot_sum (cat : Fin 7 → Fin 9) (e : Fin 9 → Fin 74 → EReal) (w : Fin 74 → EReal) :
    ∑ r : Fin 63, (if (cat ⟨r.val / 9, by omega⟩).val = r.val % 9 then (1 : EReal) else 0)
        * ∑ c : Fin 74, (if band c.val = r.val / 9 then e ⟨r.val % 9, by omega⟩ c else 0) * w c
      = ∑ c : Fin 74, e (cat (tableOf c.val)) c * w c := by
  have h := sum_pairs fun g v => (if (cat g).val = v.val then (1 : EReal) else 0)
    * ∑ c : Fin 74, (if band c.val = g.val then e v c else 0) * w c
  refine h.trans ?_
  have hv : ∀ g : Fin 7, ∑ v : Fin 9, (if (cat g).val = v.val then (1 : EReal) else 0)
      * ∑ c : Fin 74, (if band c.val = g.val then e v c else 0) * w c
        = ∑ c : Fin 74, (if band c.val = g.val then e (cat g) c else 0) * w c := fun g => by
    rw [Finset.sum_eq_single (cat g)]
    · rw [if_pos rfl, one_mul]
    · intro v _ hne
      rw [if_neg fun h => hne (Fin.ext h.symm), zero_mul]
    · exact fun h => absurd (Finset.mem_univ _) h
  rw [Finset.sum_congr rfl fun g _ => hv g, Finset.sum_comm]
  refine Finset.sum_congr rfl fun c _ => ?_
  rw [Finset.sum_eq_single (tableOf c.val)]
  · rw [if_pos (show band c.val = (tableOf c.val).val from rfl)]
  · intro g _ hne
    rw [if_neg fun h => hne (Fin.ext h.symm), zero_mul]
  · exact fun h => absurd (Finset.mem_univ _) h

/-- The first layer on a feature row, its 87 terms cut into the 74 embedded columns and the 13 numbers. -/
theorem featureRow_sum (cat : Fin 7 → Fin 9) (e : Fin 9 → Fin 74 → EReal) (num : Fin 13 → EReal) (w : Fin 87 → EReal) :
    ∑ k, featureRow cat e num k * w k
      = ∑ c : Fin 74, e (cat (tableOf c.val)) c * w ⟨c.val, by omega⟩ + ∑ n : Fin 13, num n * w ⟨74 + n.val, by omega⟩ := by
  rw [show (∑ k : Fin 87, featureRow cat e num k * w k) = ∑ k : Fin (74 + 13), featureRow cat e num k * w k from rfl,
    Fin.sum_univ_add]
  refine congrArg₂ (· + ·) (Finset.sum_congr rfl fun c _ => ?_) (Finset.sum_congr rfl fun n _ => ?_)
  · refine congrArg₂ (· * ·) ?_ rfl
    unfold featureRow
    rw [dif_pos (show (Fin.castAdd 13 c).val < 74 from c.isLt)]
    rfl
  · refine congrArg₂ (· * ·) ?_ rfl
    unfold featureRow
    rw [dif_neg (show ¬ (Fin.natAdd 74 n).val < 74 by simp)]
    exact congrArg num (Fin.ext (by simp))

end Cert.Algebra

end
-- ==== Proof.Payload.lean ====
/- What the kernel body writes, read at one row, on the extended reals: the network of Algebra.lean on the row's
   features. First the body's index words (which table a row or column belongs to, which category a pair stands for),
   then its selected table, its 0/1 row, and the layers. -/
module

public import proofs.«01_k».proof.Proof.Gen.KernelIdeal.Frame
public import proofs.«01_k».proof.Proof.Algebra

@[expose] public section

set_option maxRecDepth 16384

noncomputable section

namespace Cert.KernelIdeal.Payload

open Idealize.ShloMosaic Cert.KernelIdeal Cert.KernelIdeal.Gen Cert.Algebra

/-! ## Index words -/

/-- The body's quotient by nine rounded down, on one word, as it prints: the truncated quotient, one less where the
    signs differ and the remainder is not zero. -/
def floorNinth (k : BitVec 32) : BitVec 32 :=
  Scalar.select
    (IntOp.andi
      (IntOp.cmpi .ne
        (IntOp.subi (BitVec.setWidth 32 (IntOp.cmpi .sgt k 0#32)) (BitVec.setWidth 32 (IntOp.cmpi .slt k 0#32)))
        (Scalar.subi (Scalar.extui (Scalar.cmpi .sgt 9#32 0#32)) (Scalar.extui (Scalar.cmpi .slt 9#32 0#32))))
      (IntOp.cmpi .ne (IntOp.remsi .vector k 9#32) 0#32))
    (IntOp.subi (IntOp.divsi .vector k 9#32) 1#32)
    (IntOp.divsi .vector k 9#32)

/-- On the 63 pair numbers it is the quotient. -/
theorem floorNinth_eq : ∀ r : Fin 63, floorNinth (BitVec.ofNat 32 r.val) = BitVec.ofNat 32 (r.val / 9) := by
  decide +kernel

/-- The body's remainder by nine with the divisor's sign, on one word, as it prints. -/
def floorRem (k : BitVec 32) : BitVec 32 :=
  Scalar.select
    (IntOp.andi
      (IntOp.xori
        (IntOp.cmpi .slt (IntOp.remsi .vector k (Scalar.select (Scalar.cmpi .eq 9#32 0#32) 1#32 9#32)) 0#32)
        (Scalar.cmpi .slt (Scalar.select (Scalar.cmpi .eq 9#32 0#32) 1#32 9#32) 0#32))
      (IntOp.cmpi .ne (IntOp.remsi .vector k (Scalar.select (Scalar.cmpi .eq 9#32 0#32) 1#32 9#32)) 0#32))
    (IntOp.addi (IntOp.remsi .vector k (Scalar.select (Scalar.cmpi .eq 9#32 0#32) 1#32 9#32))
      (Scalar.select (Scalar.cmpi .eq 9#32 0#32) 1#32 9#32))
    (IntOp.remsi .vector k (Scalar.select (Scalar.cmpi .eq 9#32 0#32) 1#32 9#32))

/-- On the 63 pair numbers it is the remainder, as a signed integer. -/
theorem floorRem_toInt : ∀ r : Fin 63, (floorRem (BitVec.ofNat 32 r.val)).toInt = ((r.val % 9 : ℕ) : ℤ) := by
  decide +kernel

/-- The word at column `c` of the column bands is the number of the column's table. -/
theorem colband_apply (c : Fin 74) : k0_pay3 (ix2 0 c) = BitVec.ofNat 32 (band c.val) := by
  pointwise [k0_pay3]
  revert c
  decide +kernel

/-- Whether a column's table is a pair's table, on words and on numbers. -/
theorem bandEq_apply : ∀ (c : Fin 74) (r : Fin 63),
    IntOp.cmpi .eq (BitVec.ofNat 32 (band c.val)) (BitVec.ofNat 32 (r.val / 9)) = BitVec.ofBool (decide (band c.val = r.val / 9)) := by
  decide +kernel

/-- Whether a pair's table is table `g`, as the widened word's integer. -/
theorem tableEq_toInt : ∀ (r : Fin 63) (g : Fin 7),
    (BitVec.setWidth 32 (IntOp.cmpi .eq (BitVec.ofNat 32 (r.val / 9)) (BitVec.ofNat 32 g.val))).toInt
      = if g.val = r.val / 9 then (1 : ℤ) else 0 := by
  decide +kernel

/-! ## The selected table and its product with the weights -/

/-- The table stacked seven times: row `r` is row `r % 9` of the table. -/
theorem tiled_apply (e : Vec Ideal S9x74 .f32) (r : Fin 63) (c : Fin 74) :
    k0_pay2 e (ix2 r c) = e (ix2 ⟨r.val % 9, by omega⟩ c) := by
  pointwise [k0_pay2]
  have h := r.isLt
  split_ifs <;> exact congrArg (fun v => e (ix2 v c)) (Fin.ext (by show _ = r.val % 9; simp only; omega))

/-- The stacked table cut to its diagonal bands, times the first 74 rows of the weights. -/
theorem banded_apply (e : Vec Ideal S9x74 .f32) (w : Vec Ideal S74x256 .f32) (r : Fin 63) (j : Fin 256) :
    k0_pay6 (k0_pay2 e) k0_pay3 (iota .tc S63x1 32 [0] iota_S63x1_d0_w32) 9#32 k0_pay4 k0_pay5
        (Scalar.extui (Scalar.cmpi .sgt 9#32 0#32)) w (ix2 r j)
      = ∑ c : Fin 74, (if band c.val = r.val / 9 then e (ix2 ⟨r.val % 9, by omega⟩ c) else 0) * w (ix2 c j) := by
  pointwise [k0_pay6, k0_pay4, k0_pay5, colband_apply, tiled_apply]
  refine Finset.sum_congr rfl fun c _ => ?_
  have hq := floorNinth_eq r
  unfold floorNinth at hq
  rw [hq, bandEq_apply]
  by_cases h : band c.val = r.val / 9
  · rw [decide_eq_true h, if_pos h]; rfl
  · rw [decide_eq_false h, if_neg h, zero_mul]; rfl

/-! ## The 0/1 row and the numbers after it -/

/-- A category's word converted to a number. -/
theorem cat_number (v : Fin 9) : FloatOps.sitofp (F := Ideal) FTy.f32 (BitVec.ofNat 32 v.val) = ((v.val : ℤ) : ℝ) := by
  show (((BitVec.ofNat 32 v.val).toInt : ℝ) : EReal) = _
  rw [show (BitVec.ofNat 32 v.val).toInt = (v.val : ℤ) by revert v; decide]

/-- The row's categories times the 0/1 columns of the pairs' tables: the category of the pair's table. -/
theorem replicated_sum (cat : Fin 7 → Fin 9) (r : Fin 63) :
    (∑ g : Fin 7, FloatOps.sitofp (F := Ideal) FTy.f32 (BitVec.ofNat 32 (cat g).val)
        * FloatOps.sitofp (F := Ideal) FTy.f32
            (BitVec.setWidth 32 (IntOp.cmpi .eq (BitVec.ofNat 32 (r.val / 9)) (BitVec.ofNat 32 g.val))))
      = ((((cat ⟨r.val / 9, by omega⟩).val : ℤ) : ℝ) : EReal) := by
  have hbit : ∀ g : Fin 7, FloatOps.sitofp (F := Ideal) FTy.f32
      (BitVec.setWidth 32 (IntOp.cmpi .eq (BitVec.ofNat 32 (r.val / 9)) (BitVec.ofNat 32 g.val)))
        = if g.val = r.val / 9 then (1 : EReal) else 0 := fun g => by
    show (((BitVec.setWidth 32 _).toInt : ℝ) : EReal) = _
    rw [tableEq_toInt r g]
    split_ifs <;> simp
  rw [Finset.sum_eq_single ⟨r.val / 9, by omega⟩]
  · rw [hbit, if_pos rfl, cat_number]
    exact mul_one _
  · intro g _ hne
    rw [hbit, if_neg fun h => hne (Fin.ext h)]
    exact mul_zero _
  · exact fun h => absurd (Finset.mem_univ _) h

/-- Among the first 63 columns: 1 where the row's category of the pair's table is the pair's category, else 0. -/
theorem onehot_apply (cats : Vec Ideal S8192x7 .i32) (num : Vec Ideal S8192x13 .f32) (b : Fin 8192)
    (cat : Fin 7 → Fin 9) (hcat : ∀ g, cats (ix2 b g) = BitVec.ofNat 32 (cat g).val) (r : Fin 63) :
    k0_pay14 (k0_pay11 cats) (iota .tc S7x63 32 [0] iota_S7x63_d0_w32) (iota .tc S7x63 32 [1] iota_S7x63_d1_w32) 9#32
        k0_pay12 k0_pay13 0#32 num (ix2 b ⟨r.val, by omega⟩)
      = if (cat ⟨r.val / 9, by omega⟩).val = r.val % 9 then (1 : EReal) else 0 := by
  have hr := r.isLt
  have hq := floorNinth_eq r
  have hm := floorRem_toInt r
  unfold floorNinth at hq
  unfold floorRem at hm
  pointwise [k0_pay14, k0_pay12, k0_pay13, k0_pay11, hcat]
  rw [hq, replicated_sum]
  show (((BitVec.setWidth 32 (BitVec.ofBool (decide (_ = ((BitVec.toInt _ : ℝ) : EReal))))).toInt : ℝ) : EReal) = _
  rw [hm]
  have hiff : (((((cat ⟨r.val / 9, by omega⟩).val : ℤ) : ℝ) : EReal) = ((((r.val % 9 : ℕ) : ℤ) : ℝ) : EReal))
      ↔ (cat ⟨r.val / 9, by omega⟩).val = r.val % 9 := by
    rw [EReal.coe_eq_coe_iff]
    exact_mod_cast Iff.rfl
  by_cases h : (cat ⟨r.val / 9, by omega⟩).val = r.val % 9
  · rw [decide_eq_true (hiff.2 h), if_pos h]
    simp
  · rw [decide_eq_false fun e => h (hiff.1 e), if_neg h]
    simp

/-- The 13 columns after them are the row's numbers. -/
theorem numbers_apply (cats : Vec Ideal S8192x7 .i32) (num : Vec Ideal S8192x13 .f32) (b : Fin 8192) (n : Fin 13) :
    k0_pay14 (k0_pay11 cats) (iota .tc S7x63 32 [0] iota_S7x63_d0_w32) (iota .tc S7x63 32 [1] iota_S7x63_d1_w32) 9#32
        k0_pay12 k0_pay13 0#32 num (ix2 b ⟨63 + n.val, by omega⟩)
      = num (ix2 b n) := by
  pointwise [k0_pay14]

/-! ## The block the body writes -/

/-- Row `b` of what the body writes, from its six input blocks: the network on the row's features, the side-by-side
    tables read from the third block, the two weight matrices from the fourth and fifth, and the biases and the last
    layer's weights from the columns of the sixth. -/
theorem block_apply (x0 : Vec Ideal S8192x7 .i32) (x1 : Vec Ideal S8192x13 .f32) (x2 : Vec Ideal S9x74 .f32)
    (x3 : Vec Ideal S87x256 .f32) (x4 : Vec Ideal S256x128 .f32) (x5 : Vec Ideal S1x513 .f32) (b : Fin 8192)
    (cat : Fin 7 → Fin 9) (hcat : ∀ g, x0 (ix2 b g) = BitVec.ofNat 32 (cat g).val) :
    out0_6 x0 x1 x2 x3 x4 x5 (ix2 b 0)
      = network (featureRow cat (fun v c => x2 (ix2 v c)) fun n => x1 (ix2 b n)) (fun k i => x3 (ix2 k i))
          (fun i => x5 (ix2 0 ⟨i.val, by omega⟩)) (fun i j => x4 (ix2 i j)) (fun j => x5 (ix2 0 ⟨256 + j.val, by omega⟩))
          (fun j => x5 (ix2 0 ⟨384 + j.val, by omega⟩)) (x5 (ix2 0 ⟨512, by omega⟩)) := by
  have hc : ∀ g, View.ld x0 r0_7 (ix2 b g) = BitVec.ofNat 32 (cat g).val := fun g => by
    pointwise [hcat]
  have hfirst : ∀ i : Fin 256,
      (∑ r : Fin 63,
          k0_pay14 (k0_pay11 (View.ld x0 r0_7)) (iota .tc S7x63 32 [0] iota_S7x63_d0_w32)
              (iota .tc S7x63 32 [1] iota_S7x63_d1_w32) 9#32 k0_pay12 k0_pay13 0#32 (View.ld x1 r0_8) (ix2 b ⟨r.val, by omega⟩)
            * k0_pay6 (k0_pay2 (View.ld x2 r0_0)) k0_pay3 (iota .tc S63x1 32 [0] iota_S63x1_d0_w32) 9#32 k0_pay4 k0_pay5
                (Scalar.extui (Scalar.cmpi .sgt 9#32 0#32)) (View.ld x3 r0_1) (ix2 r i))
        + ∑ n : Fin 13,
          k0_pay14 (k0_pay11 (View.ld x0 r0_7)) (iota .tc S7x63 32 [0] iota_S7x63_d0_w32)
              (iota .tc S7x63 32 [1] iota_S7x63_d1_w32) 9#32 k0_pay12 k0_pay13 0#32 (View.ld x1 r0_8) (ix2 b ⟨63 + n.val, by omega⟩)
            * x3 (ix2 ⟨74 + n.val, by omega⟩ i)
        = ∑ k, featureRow cat (fun v c => x2 (ix2 v c)) (fun n => x1 (ix2 b n)) k * x3 (ix2 k i) := fun i => by
    rw [featureRow_sum]
    refine congrArg₂ (· + ·) (Eq.trans (Finset.sum_congr rfl fun r _ => ?_)
      (onehot_sum cat (fun v c => x2 (ix2 v c)) fun c => x3 (ix2 ⟨c.val, by omega⟩ i))) (Finset.sum_congr rfl fun n _ => ?_)
    · rw [onehot_apply _ _ b cat hc r, banded_apply]
      pointwise
    · rw [numbers_apply]
      pointwise
  unfold out0_6 network
  rw [View.canon_unit_zero (by funext a; fin_cases a <;> rfl)]
  pointwise [k0_pay1, k0_pay7, k0_pay8, k0_pay9, k0_pay10]
  simp only [hfirst]

end Cert.KernelIdeal.Payload

end
-- ==== Proof.KernelValue.lean ====
/- What the kernel's run leaves in its result array, at the ideal values: row by row, the network on that row's
   features. The two blocks the grid writes tile the array, and the host's last reshape only drops its unit axis. -/
module

public import proofs.«01_k».proof.Proof.Payload
public import Idealize.ShloMosaic.Lib.Pipeline.Value

@[expose] public section

set_option maxRecDepth 16384

noncomputable section

namespace Cert.KernelIdeal.Value

open Idealize.ShloMosaic Idealize.ShloMosaic.TcCoe Idealize.SL.Sem Cert.KernelIdeal Cert.KernelIdeal.Gen Cert.Algebra
open Idealize.ShloMosaic.Pipeline (Dat)

variable (m : (ℓ : Loc nD τ sig) → Buf (Elt Ideal) ℓ) (ρ : Dev nD → PrngReg)

/-! ## The arrays the host prepares -/

/-- The array of tables the kernel reads is the first nine rows of the seven tables, concatenated by columns. -/
theorem tables_eq (c : Dev nD) : (V m c main_v5 : Vec Ideal S9x74 .f32)
    = concatenate S9x74 1 [⟨S9x16, extractStridedSlice S9x16 ![0, 0] (m (c.tc.loc main_arg2)) slices_S501x16_S9x16_0_0⟩,
        ⟨S9x6, m (c.tc.loc main_arg3)⟩,
        ⟨S9x8, extractStridedSlice S9x8 ![0, 0] (m (c.tc.loc main_arg4)) slices_S11x8_S9x8_0_0⟩,
        ⟨S9x24, extractStridedSlice S9x24 ![0, 0] (m (c.tc.loc main_arg5)) slices_S10001x24_S9x24_0_0⟩,
        ⟨S9x8, extractStridedSlice S9x8 ![0, 0] (m (c.tc.loc main_arg6)) slices_S11x8_S9x8_0_0⟩,
        ⟨S9x4, m (c.tc.loc main_arg7)⟩,
        ⟨S9x8, extractStridedSlice S9x8 ![0, 0] (m (c.tc.loc main_arg8)) slices_S501x8_S9x8_0_0⟩]
        concatenates_S9x16_S9x6_S9x8_S9x24_S9x8_S9x4_S9x8_S9x74_d1 := by
  show StableHlo.after hostOps0 (fun b => m (c, b)) (Proc.devRef .tc main_v5) = _
  after_results
  rfl

/-- The seven tables of the launch, side by side. -/
def tables (c : Dev nD) : Fin 9 → Fin 74 → EReal :=
  sideBySide (fun r k => m (c.tc.loc main_arg2) (ix2 r k)) (fun r k => m (c.tc.loc main_arg3) (ix2 r k))
    (fun r k => m (c.tc.loc main_arg4) (ix2 r k)) (fun r k => m (c.tc.loc main_arg5) (ix2 r k))
    (fun r k => m (c.tc.loc main_arg6) (ix2 r k)) (fun r k => m (c.tc.loc main_arg7) (ix2 r k))
    (fun r k => m (c.tc.loc main_arg8) (ix2 r k))

/-- Its entry at a category and a column. -/
theorem tables_apply (c : Dev nD) (v : Fin 9) (k : Fin 74) :
    (V m c main_v5 : Vec Ideal S9x74 .f32) (ix2 v k) = tables m c v k := by
  rw [tables_eq]
  unfold tables sideBySide
  pointwise

/-- The one row of small parameters the kernel reads: the biases of the first two layers, the last layer's weights and
    its bias, concatenated. -/
theorem params_eq (c : Dev nD) : (V m c main_v10 : Vec Ideal S1x513 .f32)
    = concatenate S1x513 1 [⟨S1x256, shapeCast S1x256 (m (c.tc.loc main_arg10)) shapeCasts_S256_S1x256⟩,
        ⟨S1x128, shapeCast S1x128 (m (c.tc.loc main_arg12)) shapeCasts_S128_S1x128⟩,
        ⟨S1x128, shapeCast S1x128 (m (c.tc.loc main_arg13)) shapeCasts_S128x1_S1x128⟩,
        ⟨S1x1, shapeCast S1x1 (m (c.tc.loc main_arg14)) shapeCasts_S1_S1x1⟩]
        concatenates_S1x256_S1x128_S1x128_S1x1_S1x513_d1 := by
  show StableHlo.after hostOps0 (fun b => m (c, b)) (Proc.devRef .tc main_v10) = _
  after_results
  rfl

/-- Its first 256 columns are the first layer's bias, -/
theorem params_b1 (c : Dev nD) (i : Fin 256) :
    (V m c main_v10 : Vec Ideal S1x513 .f32) (ix2 0 ⟨i.val, by omega⟩) = m (c.tc.loc main_arg10) (ix1 i) := by
  rw [params_eq]
  pointwise

/-- the next 128 the second layer's, -/
theorem params_b2 (c : Dev nD) (j : Fin 128) :
    (V m c main_v10 : Vec Ideal S1x513 .f32) (ix2 0 ⟨256 + j.val, by omega⟩) = m (c.tc.loc main_arg12) (ix1 j) := by
  rw [params_eq]
  pointwise

/-- the next 128 the last layer's weights, -/
theorem params_w3 (c : Dev nD) (j : Fin 128) :
    (V m c main_v10 : Vec Ideal S1x513 .f32) (ix2 0 ⟨384 + j.val, by omega⟩) = m (c.tc.loc main_arg13) (ix2 j 0) := by
  rw [params_eq]
  pointwise
  rw [dif_neg (by omega), dif_neg (by omega), dif_pos (by omega)]
  congr 2
  exact Fin.ext (by show 384 + j.val - 256 - 128 = j.val; omega)

/-- and the last column its bias. -/
theorem params_b3 (c : Dev nD) :
    (V m c main_v10 : Vec Ideal S1x513 .f32) (ix2 0 ⟨512, by omega⟩) = m (c.tc.loc main_arg14) (ix1 0) := by
  rw [params_eq]
  pointwise

/-! ## The windows' blocks at a point -/

/-- The row of the batch that row `b` of block `t` is. -/
def rowOf (t : Fin cfg0.N) (b : Fin 8192) : Fin 16384 :=
  ⟨t.val * 8192 + b.val, by have := t.isLt; have hN : cfg0.N = 2 := N_0; omega⟩

/-- The categories' block at a point: rows of the array at that point. -/
theorem block_cat (c : Dev nD) (t : Fin cfg0.N) (b : Fin 8192) (g : Fin 7) :
    (iblk m c 0 t : Vec Ideal S8192x7 .i32) (ix2 b g) = m (c.tc.loc main_arg0) (ix2 (rowOf t b) g) := by
  have e : win0_0.index t 0 * win0_0.size 0 = t.val * 8192 ∧ win0_0.index t 1 * win0_0.size 1 = 0 := by
    rcases fin_N0 t with rfl | rfl <;> decide +kernel
  rw [← V_main_arg0 m c]
  refine congrArg (V m c main_arg0) (funext fun a => Fin.ext ?_)
  refine (win0_0.rect_emb_val t (ix2 b g) a).trans ?_
  match a with
  | ⟨0, _⟩ => show win0_0.index t 0 * win0_0.size 0 + b.val = t.val * 8192 + b.val; rw [e.1]
  | ⟨1, _⟩ => show win0_0.index t 1 * win0_0.size 1 + g.val = g.val; rw [e.2]; omega

/-- The numbers' block at a point, likewise. -/
theorem block_num (c : Dev nD) (t : Fin cfg0.N) (b : Fin 8192) (n : Fin 13) :
    (iblk m c 1 t : Vec Ideal S8192x13 .f32) (ix2 b n) = m (c.tc.loc main_arg1) (ix2 (rowOf t b) n) := by
  have e : win0_1.index t 0 * win0_1.size 0 = t.val * 8192 ∧ win0_1.index t 1 * win0_1.size 1 = 0 := by
    rcases fin_N0 t with rfl | rfl <;> decide +kernel
  rw [← V_main_arg1 m c]
  refine congrArg (V m c main_arg1) (funext fun a => Fin.ext ?_)
  refine (win0_1.rect_emb_val t (ix2 b n) a).trans ?_
  match a with
  | ⟨0, _⟩ => show win0_1.index t 0 * win0_1.size 0 + b.val = t.val * 8192 + b.val; rw [e.1]
  | ⟨1, _⟩ => show win0_1.index t 1 * win0_1.size 1 + n.val = n.val; rw [e.2]; omega

/-- The tables' block is the whole array at every point, -/
theorem block_tables (c : Dev nD) (t : Fin cfg0.N) :
    (iblk m c 2 t : Vec Ideal S9x74 .f32) = (V m c main_v5 : Vec Ideal S9x74 .f32) :=
  funext fun y => congrArg (V m c main_v5) (funext fun a => Fin.ext
    ((win0_2.rect_emb_val t y a).trans (by match a with | ⟨0, _⟩ => exact Nat.zero_add _ | ⟨1, _⟩ => exact Nat.zero_add _)))

/-- and so are the first layer's weights, -/
theorem block_w1 (c : Dev nD) (t : Fin cfg0.N) :
    (iblk m c 3 t : Vec Ideal S87x256 .f32) = m (c.tc.loc main_arg9) := by
  rw [← V_main_arg9 m c]
  exact funext fun y => congrArg (V m c main_arg9) (funext fun a => Fin.ext
    ((win0_3.rect_emb_val t y a).trans (by match a with | ⟨0, _⟩ => exact Nat.zero_add _ | ⟨1, _⟩ => exact Nat.zero_add _)))

/-- the second layer's, -/
theorem block_w2 (c : Dev nD) (t : Fin cfg0.N) :
    (iblk m c 4 t : Vec Ideal S256x128 .f32) = m (c.tc.loc main_arg11) := by
  rw [← V_main_arg11 m c]
  exact funext fun y => congrArg (V m c main_arg11) (funext fun a => Fin.ext
    ((win0_4.rect_emb_val t y a).trans (by match a with | ⟨0, _⟩ => exact Nat.zero_add _ | ⟨1, _⟩ => exact Nat.zero_add _)))

/-- and the row of small parameters. -/
theorem block_params (c : Dev nD) (t : Fin cfg0.N) :
    (iblk m c 5 t : Vec Ideal S1x513 .f32) = (V m c main_v10 : Vec Ideal S1x513 .f32) :=
  funext fun y => congrArg (V m c main_v10) (funext fun a => Fin.ext
    ((win0_5.rect_emb_val t y a).trans (by match a with | ⟨0, _⟩ => exact Nat.zero_add _ | ⟨1, _⟩ => exact Nat.zero_add _)))

/-! ## The array after the run -/

/-- What the launch's arguments say row `b` of the result is, its categories given as numbers below nine. -/
def answer (c : Dev nD) (cat : Fin 16384 → Fin 7 → Fin 9) (b : Fin 16384) : EReal :=
  network (featureRow (cat b) (tables m c) fun n => m (c.tc.loc main_arg1) (ix2 b n))
    (fun k i => m (c.tc.loc main_arg9) (ix2 k i)) (fun i => m (c.tc.loc main_arg10) (ix1 i))
    (fun i j => m (c.tc.loc main_arg11) (ix2 i j)) (fun j => m (c.tc.loc main_arg12) (ix1 j))
    (fun j => m (c.tc.loc main_arg13) (ix2 j 0)) (m (c.tc.loc main_arg14) (ix1 0))

/-- The same as the column the kernel writes. -/
def column (c : Dev nD) (cat : Fin 16384 → Fin 7 → Fin 9) : Vec Ideal S16384x1 .f32 := fun i => answer m c cat (i 0)

variable (c : Dev nD) (cat : Fin 16384 → Fin 7 → Fin 9)

/-- A row of what the body leaves at a point is the answer of the batch's row. -/
theorem block_row (hcat : ∀ b g, m (c.tc.loc main_arg0) (ix2 (n0 := 16384) (n1 := 7) b g) = BitVec.ofNat 32 (cat b g).val)
    (t : Fin cfg0.N) (b : Fin 8192) :
    out0_6 (iblk m c 0 t) (iblk m c 1 t) (iblk m c 2 t) (iblk m c 3 t) (iblk m c 4 t) (iblk m c 5 t) (ix2 b 0)
      = answer m c cat (rowOf t b) := by
  refine (Payload.block_apply _ _ _ _ _ _ b (cat (rowOf t b)) fun g => (block_cat m c t b g).trans (hcat _ g)).trans ?_
  unfold answer
  simp only [block_num, block_tables, block_w1, block_w2, block_params]
  congr 1
  · exact congrArg (fun e => featureRow (cat (rowOf t b)) e fun n => m (c.tc.loc main_arg1) (ix2 (rowOf t b) n))
      (funext fun v => funext fun k => tables_apply m c v k)
  · exact funext fun i => params_b1 m c i
  · exact funext fun j => params_b2 m c j
  · exact funext fun j => params_w3 m c j
  · exact params_b3 m c

/-- Row `b` of a point's block is row `rowOf t b` of the array. -/
theorem emb_row (t : Fin cfg0.N) (b : Fin 8192) (z : Fin 1) :
    ((win0_6.rect t).emb (ix2 b z : S8192x1.Idx)) 0 = rowOf t b := by
  have e : win0_6.index t 0 * win0_6.size 0 = t.val * 8192 := by
    rcases fin_N0 t with rfl | rfl <;> decide +kernel
  refine Fin.ext ((win0_6.rect_emb_val t (ix2 b z) 0).trans ?_)
  show win0_6.index t 0 * win0_6.size 0 + b.val = t.val * 8192 + b.val
  rw [e]

/-- The block written back at a point is that point's block of the column. -/
theorem flushed_eq (hcat : ∀ b g, m (c.tc.loc main_arg0) (ix2 (n0 := 16384) (n1 := 7) b g) = BitVec.ofNat 32 (cat b g).val)
    (t : Fin cfg0.N) :
    (dats m 0 c).flushed 6 t = ((cfg0.win 6).blk t).view.read (Elt Ideal) (column m c cat) := by
  show (cfg0.win 6).cut (grid0.coords t) ((dats m 0 c).after 6 t) = _
  rw [after0_6]
  funext (y : S8192x1.Idx)
  idx_vars y
  obtain rfl : y1 = 0 := Subsingleton.elim _ _
  exact (block_row m c cat hcat t y0).trans (congrArg (answer m c cat) (emb_row t y0 0).symm)

/-- An index of the result array is in point `t`'s block when its row is. -/
theorem mem_blk (t : Fin cfg0.N) (i : S16384x1.Idx) :
    i ∈ ((cfg0.win 6).blk t).view.set ↔ t.val * 8192 ≤ (i 0 : Nat) ∧ (i 0 : Nat) < t.val * 8192 + 8192 := by
  show i ∈ ((View.whole main_v11).slice (win0_6.rect t)).set ↔ _
  rw [View.set_slice_whole, Rect.mem_set_unit]
  have h1 : (i 1 : Nat) < 1 := (i 1).isLt
  have e : win0_6.index t 0 * win0_6.size 0 = t.val * 8192 ∧ win0_6.xsize (grid0.coords t) 0 = 8192
      ∧ win0_6.index t 1 * win0_6.size 1 = 0 ∧ win0_6.xsize (grid0.coords t) 1 = 1 := by
    rcases fin_N0 t with rfl | rfl <;> decide +kernel
  refine ⟨fun h => ?_, fun h a => ?_⟩
  · have h0 : win0_6.index t 0 * win0_6.size 0 ≤ (i 0 : Nat)
        ∧ (i 0 : Nat) < win0_6.index t 0 * win0_6.size 0 + win0_6.xsize (grid0.coords t) 0 := h 0
    rwa [e.1, e.2.1] at h0
  · match a with
    | ⟨0, _⟩ =>
      show win0_6.index t 0 * win0_6.size 0 ≤ (i 0 : Nat)
        ∧ (i 0 : Nat) < win0_6.index t 0 * win0_6.size 0 + win0_6.xsize (grid0.coords t) 0
      rwa [e.1, e.2.1]
    | ⟨1, _⟩ =>
      show win0_6.index t 1 * win0_6.size 1 ≤ (i 1 : Nat)
        ∧ (i 1 : Nat) < win0_6.index t 1 * win0_6.size 1 + win0_6.xsize (grid0.coords t) 1
      rw [e.2.2.1, e.2.2.2]
      omega

/-- The two blocks cover the array. -/
theorem cover (i : S16384x1.Idx) :
    ∃ t : Fin cfg0.N, (cfg0.win 6).flush t = true ∧ i ∈ ((cfg0.win 6).blk t).view.set := by
  have h0 : (i 0 : Nat) < 16384 := (i 0).isLt
  have hN : cfg0.N = 2 := N_0
  refine ⟨⟨(i 0 : Nat) / 8192, by omega⟩, flush0_6 _, ?_⟩
  rw [mem_blk]
  dsimp only
  omega

/-- So the pipeline leaves the column in its result array, -/
theorem final (hcat : ∀ b g, m (c.tc.loc main_arg0) (ix2 (n0 := 16384) (n1 := 7) b g) = BitVec.ofNat 32 (cat b g).val) :
    (dats m 0 c).arrAt 6 cfg0.N = column m c cat :=
  (dats m 0 c).arrAt_eq_of_cover 6 (column m c cat) (fun t _ => flushed_eq m c cat hcat t) cover

/-- and the host's reshape leaves it, without its unit axis, in the result. -/
theorem result_eq (hcat : ∀ b g, m (c.tc.loc main_arg0) (ix2 (n0 := 16384) (n1 := 7) b g) = BitVec.ofNat 32 (cat b g).val) :
    (Pipeline.afterTail₀ cfgs (dats m) 0 (V0 m) [hostOps1] c main_v12 : Vec Ideal S16384 .f32)
      = fun i => answer m c cat (i 0) := by
  have e : (Pipeline.afterTail₀ cfgs (dats m) 0 (V0 m) [hostOps1] c main_v12 : Vec Ideal S16384 .f32)
      = shapeCast S16384 (Pipeline.withArrays spec0 c (V0 m c) (fun w => (dats m 0 c).arrAt w cfg0.N)
          (Proc.devRef .tc main_v11) : Vec Ideal S16384x1 .f32) shapeCasts_S16384x1_S16384 := by
    unfold Pipeline.afterTail₀
    show StableHlo.after hostOps1 _ (Proc.devRef .tc main_v12) = _
    after_results
    rfl
  rw [e, show (Pipeline.withArrays spec0 c (V0 m c) (fun w => (dats m 0 c).arrAt w cfg0.N)
      (Proc.devRef .tc main_v11) : Vec Ideal S16384x1 .f32) = column m c cat from
    (Pipeline.withArrays_arr spec0 winFacts0.arr_inj c (V0 m c) _ 6).trans (final m c cat hcat)]
  funext i
  idx_vars i
  pointwise [column]

/-! ## The run -/

/-- Every run of the kernel from categories below nine ends with each row of its result at the network on that row's
    features, and with its arguments unchanged. -/
theorem run (cats : Dev nD → Fin 16384 → Fin 7 → Fin 9)
    (hcat : ∀ (c : Dev nD) b g, m (c.tc.loc main_arg0) (ix2 (n0 := 16384) (n1 := 7) b g) = BitVec.ofNat 32 (cats c b g).val) :
    θ_run defs (onTc (τ := τ) (main (F := Ideal))) ⟨m, fun _ => 0, ρ⟩ (fun r => ∀ c : Dev nD,
      r.2.mem ((c.tc : Thread nD τ).loc main_v12) = fun i => answer m c (cats c) (i 0)) :=
  (θ_run defs _ _).mono (fun _ h c =>
    ((h c).2 main_v12 (Pipeline.mem_restRefs_of main_v12 (by decide) (by decide))).trans (result_eq m c (cats c) (hcat c)))
    (run_main m ρ)

end Cert.KernelIdeal.Value

end
-- ==== Proof.RefValue.lean ====
/- What the reference computes, at the ideal values: each lookup is a row of its table, the concatenated row is the
   feature row, and the result is the network on it. -/
module

public import proofs.«01_k».proof.Proof.Algebra
public import proofs.«01_k».proof.Proof.Gen.ReferenceIdeal.Read
public import Idealize.ShloMosaic.Lib.Routing.Ops
public import Idealize.ShloMosaic.Lib.ReduceAll

@[expose] public section

set_option maxRecDepth 16384

noncomputable section

namespace Cert.ReferenceIdeal.Rows

open Idealize.ShloMosaic Idealize.ShloMosaic.TcCoe Cert.ReferenceIdeal Cert.ReferenceIdeal.Read Cert.Algebra

/-! ## A lookup by a number below nine -/

/-- A number below nine is not negative, so a lookup's wrap-around of negative indices leaves it. -/
theorem wrap_eq (v : Fin 9) (n : BitVec 32) :
    Scalar.select (IntOp.cmpi .slt (BitVec.ofNat 32 v.val) 0#32) (IntOp.addi (BitVec.ofNat 32 v.val) n) (BitVec.ofNat 32 v.val)
      = BitVec.ofNat 32 v.val := by
  have h : IntOp.cmpi .slt (BitVec.ofNat 32 v.val) 0#32 = 0#1 := by revert v; decide
  rw [h]
  rfl

/-- It passes a lookup's test of the range from zero to `k` when `k` is at least eight. -/
theorem inRange_eq (v : Fin 9) (k : BitVec 32) (hk : 8 ≤ k.toInt) :
    IntOp.andi (IntOp.cmpi .sge (BitVec.ofNat 32 v.val) 0#32) (IntOp.cmpi .sle (BitVec.ofNat 32 v.val) k) = 1#1 := by
  have h : IntOp.cmpi .sge (BitVec.ofNat 32 v.val) 0#32 = 1#1 := by revert v; decide
  have h8 : (BitVec.ofNat 32 v.val).toInt ≤ 8 := by revert v; decide
  have h' : IntOp.cmpi .sle (BitVec.ofNat 32 v.val) k = 1#1 :=
    IntOp.cmpi_sle.2 (h8.trans hk)
  rw [h, h']
  rfl

/-- A filled lookup of whole rows: where the index column holds numbers below nine, the table has at least nine rows and
    every index passes its test, row `b` of the result is the table's row at that row's number. -/
theorem take_row {nb w : Nat} (d : GatherDims ⟨2, ![nb, w]⟩ S16384x1 ⟨2, ![16384, w]⟩) (hoff : d.offsetDims = [1])
    (hcoll : d.collapsedSliceDims = [0]) (hob : d.operandBatchingDims = []) (hsim : d.startIndexMap = [0])
    (hivd : d.indexVectorDim = 1) (table : FVec Ideal ⟨2, ![nb, w]⟩ .f32) (index : IVec S16384x1 32) (ok : IVec S16384x1 1)
    (one : IVec S_ 1) (hred : S16384x1.ReducesTo [1] S16384) (h0 : 0 < S_.numel)
    (hbc : S16384.BroadcastsInDim ⟨2, ![16384, w]⟩ (![0] : Fin 1 → Fin 2)) (fill : FVec Ideal ⟨2, ![16384, w]⟩ .f32)
    (cat : Fin 16384 → Fin 9) (hindex : ∀ b, index (ix2 b 0) = BitVec.ofNat 32 (cat b).val) (hok : ∀ b, ok (ix2 b 0) = 1#1)
    (hone : one ix0 = 1#1) (hnb : 9 ≤ nb) (hnb' : nb < 2 ^ 31) (b : Fin 16384) (y : Fin w) :
    select (broadcastInDim ⟨2, ![16384, w]⟩ _ hbc (Host.reduce IntOp.andi ok one hred h0)) (Host.gather d table index) fill (ix2 b y)
      = table (ix2 ⟨(cat b).val, by omega⟩ y) := by
  have hall : Host.reduce IntOp.andi ok one hred h0 = fun _ => 1#1 := funext fun j =>
    Host.reduce_andi_one ok one _ _ j ((congrArg one (funext fun a => a.elim0)).trans hone) fun i => by
      idx_vars i
      obtain rfl : i1 = 0 := Subsingleton.elim _ _
      exact hok i0
  have hg : Host.gather d table index (ix2 b y) = table (ix2 ⟨(cat b).val, by omega⟩ y) := by
    rw [ix2_eq_valueIdx, ix2_eq_valueIdx]
    exact Routing.gather_row d hoff hcoll hob hsim hivd table index b y ⟨(cat b).val, by omega⟩
      (by rw [← ix2_eq_valueIdx]; exact hindex b) hnb'
  rw [hall, ← hg]
  rfl

/-! ## The seven lookups -/

section

variable (x0 : IVec S16384x7 32) (cat : Fin 16384 → Fin 7 → Fin 9)
  (hcat : ∀ b g, x0 (ix2 b g) = BitVec.ofNat 32 (cat b g).val)

include hcat

/-- The index column of the zip code lookup is the row's category 0. -/
theorem index_0 (b : Fin 16384) : val_main_call0_v5 (F := Ideal) x0 (ix2 b 0) = BitVec.ofNat 32 (cat b 0).val := by
  pointwise [val_main_call0_v5, val_main_call0_v4, val_main_call0_v3, val_main_call0_v2, val_main_call0_v1, val_main_call0_v0, val_main_call0_c, val_main_call0_c_0,
    val_main_v1, val_main_v0, hcat]
  exact wrap_eq _ _

/-- So the lookup is the table's row at that category. -/
theorem lookup_0 (x2 : FVec Ideal S501x16 .f32) (b : Fin 16384) (y : Fin 16) :
    val_main_v2 (F := Ideal) x0 x2 (ix2 b y) = x2 (ix2 ⟨(cat b 0).val, by omega⟩ y) :=
  take_row gather_S501x16_S16384x1_S16384x16_1_0_n_n_0_1_116 rfl rfl rfl rfl rfl x2 (val_main_call0_v5 (F := Ideal) x0)
    (val_main_call0_v11 (F := Ideal) x0) _ _ _ _ _ (fun b => cat b 0) (index_0 x0 cat hcat)
    (fun b => by
      pointwise [val_main_call0_v11, val_main_call0_v10, val_main_call0_v9, val_main_call0_v8, val_main_call0_v7, val_main_call0_v6,
        val_main_call0_c_1, val_main_call0_c_2, index_0 x0 cat hcat]
      exact inRange_eq _ _ (by decide))
    rfl (by decide) (by decide) b y

/-- The index column of the property type lookup is the row's category 1. -/
theorem index_1 (b : Fin 16384) : val_main_call1_v5 (F := Ideal) x0 (ix2 b 0) = BitVec.ofNat 32 (cat b 1).val := by
  pointwise [val_main_call1_v5, val_main_call1_v4, val_main_call1_v3, val_main_call1_v2, val_main_call1_v1, val_main_call1_v0, val_main_call1_c, val_main_call1_c_0,
    val_main_v4, val_main_v3, hcat]
  exact wrap_eq _ _

/-- So the lookup is the table's row at that category. -/
theorem lookup_1 (x3 : FVec Ideal S9x6 .f32) (b : Fin 16384) (y : Fin 6) :
    val_main_v5 (F := Ideal) x0 x3 (ix2 b y) = x3 (ix2 ⟨(cat b 1).val, by omega⟩ y) :=
  take_row gather_S9x6_S16384x1_S16384x6_1_0_n_n_0_1_16 rfl rfl rfl rfl rfl x3 (val_main_call1_v5 (F := Ideal) x0)
    (val_main_call1_v11 (F := Ideal) x0) _ _ _ _ _ (fun b => cat b 1) (index_1 x0 cat hcat)
    (fun b => by
      pointwise [val_main_call1_v11, val_main_call1_v10, val_main_call1_v9, val_main_call1_v8, val_main_call1_v7, val_main_call1_v6,
        val_main_call1_c_1, val_main_call1_c_2, index_1 x0 cat hcat]
      exact inRange_eq _ _ (by decide))
    rfl (by decide) (by decide) b y

/-- The index column of the trade lookup is the row's category 2. -/
theorem index_2 (b : Fin 16384) : val_main_call2_v5 (F := Ideal) x0 (ix2 b 0) = BitVec.ofNat 32 (cat b 2).val := by
  pointwise [val_main_call2_v5, val_main_call2_v4, val_main_call2_v3, val_main_call2_v2, val_main_call2_v1, val_main_call2_v0, val_main_call2_c, val_main_call2_c_0,
    val_main_v7, val_main_v6, hcat]
  exact wrap_eq _ _

/-- So the lookup is the table's row at that category. -/
theorem lookup_2 (x4 : FVec Ideal S11x8 .f32) (b : Fin 16384) (y : Fin 8) :
    val_main_v8 (F := Ideal) x0 x4 (ix2 b y) = x4 (ix2 ⟨(cat b 2).val, by omega⟩ y) :=
  take_row gather_S11x8_S16384x1_S16384x8_1_0_n_n_0_1_18 rfl rfl rfl rfl rfl x4 (val_main_call2_v5 (F := Ideal) x0)
    (val_main_call2_v11 (F := Ideal) x0) _ _ _ _ _ (fun b => cat b 2) (index_2 x0 cat hcat)
    (fun b => by
      pointwise [val_main_call2_v11, val_main_call2_v10, val_main_call2_v9, val_main_call2_v8, val_main_call2_v7, val_main_call2_v6,
        val_main_call2_c_1, val_main_call2_c_2, index_2 x0 cat hcat]
      exact inRange_eq _ _ (by decide))
    rfl (by decide) (by decide) b y

/-- The index column of the sub-trade lookup is the row's category 3. -/
theorem index_3 (b : Fin 16384) : val_main_call3_v5 (F := Ideal) x0 (ix2 b 0) = BitVec.ofNat 32 (cat b 3).val := by
  pointwise [val_main_call3_v5, val_main_call3_v4, val_main_call3_v3, val_main_call3_v2, val_main_call3_v1, val_main_call3_v0, val_main_call3_c, val_main_call3_c_0,
    val_main_v10, val_main_v9, hcat]
  exact wrap_eq _ _

/-- So the lookup is the table's row at that category. -/
theorem lookup_3 (x5 : FVec Ideal S10001x24 .f32) (b : Fin 16384) (y : Fin 24) :
    val_main_v11 (F := Ideal) x0 x5 (ix2 b y) = x5 (ix2 ⟨(cat b 3).val, by omega⟩ y) :=
  take_row gather_S10001x24_S16384x1_S16384x24_1_0_n_n_0_1_124 rfl rfl rfl rfl rfl x5 (val_main_call3_v5 (F := Ideal) x0)
    (val_main_call3_v11 (F := Ideal) x0) _ _ _ _ _ (fun b => cat b 3) (index_3 x0 cat hcat)
    (fun b => by
      pointwise [val_main_call3_v11, val_main_call3_v10, val_main_call3_v9, val_main_call3_v8, val_main_call3_v7, val_main_call3_v6,
        val_main_call3_c_1, val_main_call3_c_2, index_3 x0 cat hcat]
      exact inRange_eq _ _ (by decide))
    rfl (by decide) (by decide) b y

/-- The index column of the primary trade lookup is the row's category 4. -/
theorem index_4 (b : Fin 16384) : val_main_call4_v5 (F := Ideal) x0 (ix2 b 0) = BitVec.ofNat 32 (cat b 4).val := by
  pointwise [val_main_call4_v5, val_main_call4_v4, val_main_call4_v3, val_main_call4_v2, val_main_call4_v1, val_main_call4_v0, val_main_call4_c, val_main_call4_c_0,
    val_main_v13, val_main_v12, hcat]
  exact wrap_eq _ _

/-- So the lookup is the table's row at that category. -/
theorem lookup_4 (x6 : FVec Ideal S11x8 .f32) (b : Fin 16384) (y : Fin 8) :
    val_main_v14 (F := Ideal) x0 x6 (ix2 b y) = x6 (ix2 ⟨(cat b 4).val, by omega⟩ y) :=
  take_row gather_S11x8_S16384x1_S16384x8_1_0_n_n_0_1_18 rfl rfl rfl rfl rfl x6 (val_main_call4_v5 (F := Ideal) x0)
    (val_main_call4_v11 (F := Ideal) x0) _ _ _ _ _ (fun b => cat b 4) (index_4 x0 cat hcat)
    (fun b => by
      pointwise [val_main_call4_v11, val_main_call4_v10, val_main_call4_v9, val_main_call4_v8, val_main_call4_v7, val_main_call4_v6,
        val_main_call4_c_1, val_main_call4_c_2, index_4 x0 cat hcat]
      exact inRange_eq _ _ (by decide))
    rfl (by decide) (by decide) b y

/-- The index column of the certification lookup is the row's category 5. -/
theorem index_5 (b : Fin 16384) : val_main_call5_v5 (F := Ideal) x0 (ix2 b 0) = BitVec.ofNat 32 (cat b 5).val := by
  pointwise [val_main_call5_v5, val_main_call5_v4, val_main_call5_v3, val_main_call5_v2, val_main_call5_v1, val_main_call5_v0, val_main_call5_c, val_main_call5_c_0,
    val_main_v16, val_main_v15, hcat]
  exact wrap_eq _ _

/-- So the lookup is the table's row at that category. -/
theorem lookup_5 (x7 : FVec Ideal S9x4 .f32) (b : Fin 16384) (y : Fin 4) :
    val_main_v17 (F := Ideal) x0 x7 (ix2 b y) = x7 (ix2 ⟨(cat b 5).val, by omega⟩ y) :=
  take_row gather_S9x4_S16384x1_S16384x4_1_0_n_n_0_1_14 rfl rfl rfl rfl rfl x7 (val_main_call5_v5 (F := Ideal) x0)
    (val_main_call5_v11 (F := Ideal) x0) _ _ _ _ _ (fun b => cat b 5) (index_5 x0 cat hcat)
    (fun b => by
      pointwise [val_main_call5_v11, val_main_call5_v10, val_main_call5_v9, val_main_call5_v8, val_main_call5_v7, val_main_call5_v6,
        val_main_call5_c_1, val_main_call5_c_2, index_5 x0 cat hcat]
      exact inRange_eq _ _ (by decide))
    rfl (by decide) (by decide) b y

/-- The index column of the sub-zip code lookup is the row's category 6. -/
theorem index_6 (b : Fin 16384) : val_main_call6_v5 (F := Ideal) x0 (ix2 b 0) = BitVec.ofNat 32 (cat b 6).val := by
  pointwise [val_main_call6_v5, val_main_call6_v4, val_main_call6_v3, val_main_call6_v2, val_main_call6_v1, val_main_call6_v0, val_main_call6_c, val_main_call6_c_0,
    val_main_v19, val_main_v18, hcat]
  exact wrap_eq _ _

/-- So the lookup is the table's row at that category. -/
theorem lookup_6 (x8 : FVec Ideal S501x8 .f32) (b : Fin 16384) (y : Fin 8) :
    val_main_v20 (F := Ideal) x0 x8 (ix2 b y) = x8 (ix2 ⟨(cat b 6).val, by omega⟩ y) :=
  take_row gather_S501x8_S16384x1_S16384x8_1_0_n_n_0_1_18 rfl rfl rfl rfl rfl x8 (val_main_call6_v5 (F := Ideal) x0)
    (val_main_call6_v11 (F := Ideal) x0) _ _ _ _ _ (fun b => cat b 6) (index_6 x0 cat hcat)
    (fun b => by
      pointwise [val_main_call6_v11, val_main_call6_v10, val_main_call6_v9, val_main_call6_v8, val_main_call6_v7, val_main_call6_v6,
        val_main_call6_c_1, val_main_call6_c_2, index_6 x0 cat hcat]
      exact inRange_eq _ _ (by decide))
    rfl (by decide) (by decide) b y

/-! ## The feature row and the result -/

variable (x1 : FVec Ideal S16384x13 .f32) (x2 : FVec Ideal S501x16 .f32) (x3 : FVec Ideal S9x6 .f32)
  (x4 : FVec Ideal S11x8 .f32) (x5 : FVec Ideal S10001x24 .f32) (x6 : FVec Ideal S11x8 .f32) (x7 : FVec Ideal S9x4 .f32)
  (x8 : FVec Ideal S501x8 .f32)

/-- The concatenated row is the feature row: the seven lookups, then the row's numbers. -/
theorem features_apply (b : Fin 16384) (k : Fin 87) :
    val_main_v21 (F := Ideal) x0 x1 x2 x3 x4 x5 x6 x7 x8 (ix2 b k)
      = featureRow (cat b) (sideBySide (fun r c => x2 (ix2 r c)) (fun r c => x3 (ix2 r c)) (fun r c => x4 (ix2 r c))
          (fun r c => x5 (ix2 r c)) (fun r c => x6 (ix2 r c)) (fun r c => x7 (ix2 r c)) (fun r c => x8 (ix2 r c)))
          (fun n => x1 (ix2 b n)) k := by
  unfold featureRow sideBySide
  pointwise [val_main_v21, lookup_0 x0 cat hcat, lookup_1 x0 cat hcat, lookup_2 x0 cat hcat, lookup_3 x0 cat hcat,
    lookup_4 x0 cat hcat, lookup_5 x0 cat hcat, lookup_6 x0 cat hcat]
  by_cases h0 : k.val < 16
  · have e : tableOf k.val = 0 := Fin.ext (show band k.val = 0 by unfold band; split_ifs <;> omega)
    simp only [h0, show k.val < 74 by omega, e, ↓reduceDIte]
  by_cases h1 : k.val - 16 < 6
  · have e : tableOf k.val = 1 := Fin.ext (show band k.val = 1 by unfold band; split_ifs <;> omega)
    simp only [h0, h1, show k.val < 74 by omega, e, ↓reduceDIte]
  by_cases h2 : k.val - 16 - 6 < 8
  · have e : tableOf k.val = 2 := Fin.ext (show band k.val = 2 by unfold band; split_ifs <;> omega)
    simp only [h0, h1, h2, show k.val < 74 by omega, e, ↓reduceDIte]
  by_cases h3 : k.val - 16 - 6 - 8 < 24
  · have e : tableOf k.val = 3 := Fin.ext (show band k.val = 3 by unfold band; split_ifs <;> omega)
    simp only [h0, h1, h2, h3, show k.val < 74 by omega, e, ↓reduceDIte]
  by_cases h4 : k.val - 16 - 6 - 8 - 24 < 8
  · have e : tableOf k.val = 4 := Fin.ext (show band k.val = 4 by unfold band; split_ifs <;> omega)
    simp only [h0, h1, h2, h3, h4, show k.val < 74 by omega, e, ↓reduceDIte]
  by_cases h5 : k.val - 16 - 6 - 8 - 24 - 8 < 4
  · have e : tableOf k.val = 5 := Fin.ext (show band k.val = 5 by unfold band; split_ifs <;> omega)
    simp only [h0, h1, h2, h3, h4, h5, show k.val < 74 by omega, e, ↓reduceDIte]
  by_cases h6 : k.val - 16 - 6 - 8 - 24 - 8 - 4 < 8
  · have e : tableOf k.val = 6 := Fin.ext (show band k.val = 6 by unfold band; split_ifs <;> omega)
    simp only [h0, h1, h2, h3, h4, h5, h6, show k.val < 74 by omega, e, ↓reduceDIte]
  · simp only [h0, h1, h2, h3, h4, h5, h6, show ¬ k.val < 74 by omega, ↓reduceDIte]
    congr 3

/-- The result, row by row: the network on the row's features. -/
theorem result_apply (x9 : FVec Ideal S87x256 .f32) (x10 : FVec Ideal S256 .f32) (x11 : FVec Ideal S256x128 .f32)
    (x12 : FVec Ideal S128 .f32) (x13 : FVec Ideal S128x1 .f32) (x14 : FVec Ideal S1 .f32) (b : Fin 16384) :
    val_main_v42 (F := Ideal) x0 x1 x2 x3 x4 x5 x6 x7 x8 x9 x10 x11 x12 x13 x14 (ix1 b)
      = network (featureRow (cat b) (sideBySide (fun r c => x2 (ix2 r c)) (fun r c => x3 (ix2 r c)) (fun r c => x4 (ix2 r c))
          (fun r c => x5 (ix2 r c)) (fun r c => x6 (ix2 r c)) (fun r c => x7 (ix2 r c)) (fun r c => x8 (ix2 r c)))
          (fun n => x1 (ix2 b n))) (fun k i => x9 (ix2 k i)) (fun i => x10 (ix1 i)) (fun i j => x11 (ix2 i j))
          (fun j => x12 (ix1 j)) (fun j => x13 (ix2 j 0)) (x14 (ix1 0)) := by
  unfold network Ideal.logistic
  pointwise [val_main_v42, val_main_v41, val_main_v40, val_main_v39, val_main_v38, val_main_v37, val_main_v36, val_main_v35,
    val_main_v34, val_main_v33, val_main_v32, val_main_v31, val_main_v30, val_main_v29, val_main_v28, val_main_v27,
    val_main_v26, val_main_v25, val_main_v24, val_main_v23, val_main_v22, val_main_cst, val_main_cst_0,
    val_main_call7_v0, val_main_call7_cst, val_main_call8_v0, val_main_call8_cst, features_apply x0 cat hcat]

end

end Cert.ReferenceIdeal.Rows

end
-- ==== Proof.Precond.lean ====
/- The precondition, read back: where it holds, every category is a number below nine. -/
module

public import proofs.«01_k».proof.Proof.Gen.Pre_categories_in_range
public import Idealize.ShloMosaic.Lib.Pointwise
public import Idealize.ShloMosaic.Lib.ReduceAll

@[expose] public section

noncomputable section

namespace Cert.Pre_categories_in_range

open Idealize.ShloMosaic Facts

/-- A 32-bit word that is at least zero and below nine, as a signed integer, is the word of a number below nine. -/
theorem exists_number (x : BitVec 32) (h0 : 0 ≤ x.toInt) (h9 : x.toInt < 9) : ∃ v : Fin 9, x = BitVec.ofNat 32 v.val := by
  have hx := x.isLt
  have e := BitVec.toInt_eq_toNat_cond x
  have hn : x.toNat < 9 := by
    split_ifs at e <;> omega
  exact ⟨⟨x.toNat, hn⟩, BitVec.eq_of_toNat_eq (by rw [BitVec.toNat_ofNat]; exact (Nat.mod_eq_of_lt hx).symm)⟩

/-- Where the predicate is true of the arguments, each row's seven categories are numbers below nine. -/
theorem exists_categories [Facts] (x0 : IVec S16384x7 32) (x1 : FVec Ideal S16384x13 .f32) (x2 : FVec Ideal S501x16 .f32)
    (x3 : FVec Ideal S9x6 .f32) (x4 : FVec Ideal S11x8 .f32) (x5 : FVec Ideal S10001x24 .f32) (x6 : FVec Ideal S11x8 .f32)
    (x7 : FVec Ideal S9x4 .f32) (x8 : FVec Ideal S501x8 .f32) (x9 : FVec Ideal S87x256 .f32) (x10 : FVec Ideal S256 .f32)
    (x11 : FVec Ideal S256x128 .f32) (x12 : FVec Ideal S128 .f32) (x13 : FVec Ideal S128x1 .f32) (x14 : FVec Ideal S1 .f32)
    (h : fn (F := Ideal) x0 x1 x2 x3 x4 x5 x6 x7 x8 x9 x10 x11 x12 x13 x14 = fun _ => 1#1) :
    ∃ cat : Fin 16384 → Fin 7 → Fin 9, ∀ b g, x0 (ix2 b g) = BitVec.ofNat 32 (cat b g).val := by
  have key : ∀ b g, ∃ v : Fin 9, x0 (ix2 b g) = BitVec.ofNat 32 v.val := fun b g => by
    haveI : Subsingleton S_.Idx := ⟨fun i j => funext fun a => a.elim0⟩
    have hall := congrFun h ix0
    unfold fn at hall
    dsimp only at hall
    have hbg := Host.reduce_andi_all _ _ _ _ _ hall (ix2 b g)
    have h1 := IntOp.andi_eq_one.1 hbg
    exact exists_number _ (IntOp.cmpi_sge.1 h1.1) (IntOp.cmpi_slt.1 h1.2)
  choose cat hcat using key
  exact ⟨cat, hcat⟩

end Cert.Pre_categories_in_range

end
-- ==== Proof.lean ====
/- The proof of the certificate's claims: the frames of the kernel, of its idealization and of the reference, the
   idealization's rewriting of nothing, and the equality of the two results over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_categories_in_range
public import proofs.«01_k».proof.Proof.KernelValue
public import proofs.«01_k».proof.Proof.RefValue
public import proofs.«01_k».proof.Proof.Precond
public import Idealize.ShloMosaic.Adequacy
public import Idealize.ShloMosaic.Init

@[expose] public section

noncomputable section

namespace Cert.Proof

open Idealize.ShloMosaic Idealize.SL.Sem Cert.Kernel

/-- The reference runs to its end, leaves its arguments as they were, and declares no semaphore. -/
theorem reference_runs : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Over the extended reals, where every category is below nine, the kernel and the reference end with the same result:
    row by row, the network on that row's features. -/
theorem algebraic : Cert.algebraic_KernelIdeal_ReferenceIdeal_pre_categories_in_range
    (hKernelIdeal := Cert.KernelIdeal.Gen.facts) (hReferenceIdeal := Cert.ReferenceIdeal.Gen.facts)
    (hPre_categories_in_range := Cert.Pre_categories_in_range.Gen.facts) := by
  intro m ρ m' ρ' hpre hagree
  choose cats hcat using fun c => Cert.Pre_categories_in_range.exists_categories _ _ _ _ _ _ _ _ _ _ _ _ _ _ _ (hpre c)
  refine ⟨fun c i => Cert.KernelIdeal.Value.answer m c (cats c) (i 0), ?_, ?_⟩
  · exact (θ_run Cert.KernelIdeal.defs _ _).mono (fun _ h c => ⟨h.1 c, h.2 c⟩)
      (θ_run_and (Cert.KernelIdeal.Value.run m ρ cats hcat) (Cert.KernelIdeal.Gen.unchanged m ρ))
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12, a13, a14⟩ := hagree c
    refine (Cert.ReferenceIdeal.Read.val_main_v42_eq (F := Ideal) fun b => m' (c, b)).trans ?_
    funext i
    idx_vars i
    refine (Cert.ReferenceIdeal.Rows.result_apply _ (cats c) (fun b g => (congrFun a0 _).trans (hcat c b g))
      _ _ _ _ _ _ _ _ _ _ _ _ _ _ i0).trans ?_
    unfold Cert.KernelIdeal.Value.answer Cert.KernelIdeal.Value.tables
    rw [← a1, ← a2, ← a3, ← a4, ← a5, ← a6, ← a7, ← a8, ← a9, ← a10, ← a11, ← a12, ← a13, ← a14]

/-- Every claim of the certificate. -/
theorem claim : Cert.Claim := ⟨Cert.Kernel.Gen.facts, Cert.KernelIdeal.Gen.facts, Cert.ReferenceIdeal.Gen.facts, Cert.Pre_categories_in_range.Gen.facts,
  fun m ρ _ => Cert.Kernel.Gen.frame m ρ, fun m ρ _ => Cert.KernelIdeal.Gen.frame m ρ, fun m ρ _ => Cert.KernelIdeal.Gen.frame m ρ,
  reference_runs, fun m ρ _ => reference_runs m ρ trivial, trivial, algebraic⟩

end Cert.Proof

end
